-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_cst_23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_cst_23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_cst_18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x1024 : Shape := ⟨3, ![1, 2048, 1024]⟩
abbrev S8x1024 : Shape := ⟨2, ![8, 1024]⟩
abbrev S8x2048x1024 : Shape := ⟨3, ![8, 2048, 1024]⟩
abbrev S8x1024x2048 : Shape := ⟨3, ![8, 1024, 2048]⟩
abbrev S2048x1024 : Shape := ⟨2, ![2048, 1024]⟩
abbrev S1024x2048 : Shape := ⟨2, ![1024, 2048]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S1x2048x1024 .f32) (main_arg1 : FVec F S8x1024 .f32) (main_arg2 : FVec F S8x2048x1024 .f32) (main_arg3 : FVec F S8x2048x1024 .f32) (main_arg4 : FVec F S8x1024x2048 .f32) (main_arg5 : FVec F S2048x1024 .f32) (main_arg6 : FVec F S2048x1024 .f32) (main_arg7 : FVec F S1024x2048 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S1x2048x1024 : Shape := ⟨3, ![1, 2048, 1024]⟩
abbrev S8x1024 : Shape := ⟨2, ![8, 1024]⟩
abbrev S8x2048x1024 : Shape := ⟨3, ![8, 2048, 1024]⟩
abbrev S8x1024x2048 : Shape := ⟨3, ![8, 1024, 2048]⟩
abbrev S2048x1024 : Shape := ⟨2, ![2048, 1024]⟩
abbrev S1024x2048 : Shape := ⟨2, ![1024, 2048]⟩
abbrev S9x2048x1024 : Shape := ⟨3, ![9, 2048, 1024]⟩
abbrev S1x1024x2048 : Shape := ⟨3, ![1, 1024, 2048]⟩
abbrev S9x1024x2048 : Shape := ⟨3, ![9, 1024, 2048]⟩
abbrev S2048x2 : Shape := ⟨2, ![2048, 2]⟩
abbrev S2048x8 : Shape := ⟨2, ![2048, 8]⟩
abbrev S2048 : Shape := ⟨1, ![2048]⟩
abbrev S2048x1 : Shape := ⟨2, ![2048, 1]⟩
abbrev S4096 : Shape := ⟨1, ![4096]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S_ : Shape := ⟨0, ![]⟩
abbrev S4992 : Shape := ⟨1, ![4992]⟩
abbrev S39 : Shape := ⟨1, ![39]⟩
abbrev S39x1 : Shape := ⟨2, ![39, 1]⟩
abbrev S39x8 : Shape := ⟨2, ![39, 8]⟩
abbrev S16 : Shape := ⟨1, ![16]⟩
abbrev S55 : Shape := ⟨1, ![55]⟩
abbrev S4992x1 : Shape := ⟨2, ![4992, 1]⟩
abbrev S4992x1024 : Shape := ⟨2, ![4992, 1024]⟩
abbrev S7040x1024 : Shape := ⟨2, ![7040, 1024]⟩
abbrev S128x1024 : Shape := ⟨2, ![128, 1024]⟩
abbrev S1 : Shape := ⟨1, ![1]⟩
abbrev S128x1 : Shape := ⟨2, ![128, 1]⟩
abbrev S128x2048 : Shape := ⟨2, ![128, 2048]⟩

abbrev nBuf : Space → Nat
  | .hbm => 166
  | .vmem => 18
  | .smem => 1
  | _ => 0

abbrev hbmTy0_0 (i : Nat) : BufTy := match i % 128 with
  | 0 => ⟨S1x2048x1024, .f32⟩
  | 1 => ⟨S8x1024, .f32⟩
  | 2 => ⟨S8x2048x1024, .f32⟩
  | 3 => ⟨S8x2048x1024, .f32⟩
  | 4 => ⟨S8x1024x2048, .f32⟩
  | 5 => ⟨S2048x1024, .f32⟩
  | 6 => ⟨S2048x1024, .f32⟩
  | 7 => ⟨S1024x2048, .f32⟩
  | 8 => ⟨S2048x1024, .f32⟩
  | 9 => ⟨S1x2048x1024, .f32⟩
  | 10 => ⟨S9x2048x1024, .f32⟩
  | 11 => ⟨S9x2048x1024, .bf16⟩
  | 12 => ⟨S1x2048x1024, .f32⟩
  | 13 => ⟨S9x2048x1024, .f32⟩
  | 14 => ⟨S9x2048x1024, .bf16⟩
  | 15 => ⟨S1x1024x2048, .f32⟩
  | 16 => ⟨S9x1024x2048, .f32⟩
  | 17 => ⟨S9x1024x2048, .bf16⟩
  | 18 => ⟨S2048x2, .i32⟩
  | 19 => ⟨S2048x2, .f32⟩
  | 20 => ⟨S4096, .i32⟩
  | 21 => ⟨S4096, .f32⟩
  | 22 => ⟨S4096x1, .i32⟩
  | 23 => ⟨S8, .i32⟩
  | 24 => ⟨S1x8, .i32⟩
  | 25 => ⟨S4096x8, .i32⟩
  | 26 => ⟨S4096x8, .i32⟩
  | 27 => ⟨S4096x8, .i1⟩
  | 28 => ⟨S4096x8, .i32⟩
  | 29 => ⟨S_, .i32⟩
  | 30 => ⟨S8, .i32⟩
  | 31 => ⟨S_, .i32⟩
  | 32 => ⟨S8, .i32⟩
  | 33 => ⟨S8, .i32⟩
  | 34 => ⟨S_, .i32⟩
  | 35 => ⟨S8, .i32⟩
  | 36 => ⟨S8, .i32⟩
  | 37 => ⟨S_, .i32⟩
  | 38 => ⟨S_, .i32⟩
  | 39 => ⟨S8, .i32⟩
  | 40 => ⟨S8, .i32⟩
  | 41 => ⟨S8, .i32⟩
  | 42 => ⟨S_, .i32⟩
  | 43 => ⟨S8, .i32⟩
  | 44 => ⟨S8, .i1⟩
  | 45 => ⟨S8, .i32⟩
  | 46 => ⟨S8, .i32⟩
  | 47 => ⟨S_, .i32⟩
  | 48 => ⟨S8, .i32⟩
  | 49 => ⟨S8, .i1⟩
  | 50 => ⟨S8, .i1⟩
  | 51 => ⟨S_, .i32⟩
  | 52 => ⟨S8, .i32⟩
  | 53 => ⟨S8, .i32⟩
  | 54 => ⟨S8, .i32⟩
  | 55 => ⟨S_, .i32⟩
  | 56 => ⟨S8, .i32⟩
  | 57 => ⟨S8, .i32⟩
  | 58 => ⟨S_, .i32⟩
  | 59 => ⟨S_, .i32⟩
  | 60 => ⟨S8, .i32⟩
  | 61 => ⟨S8, .i32⟩
  | 62 => ⟨S_, .i32⟩
  | 63 => ⟨S_, .i32⟩
  | 64 => ⟨S4096x8, .i32⟩
  | 65 => ⟨S_, .i32⟩
  | 66 => ⟨S4096x8, .i32⟩
  | 67 => ⟨S4096x8, .i32⟩
  | 68 => ⟨S4096x8, .i32⟩
  | 69 => ⟨S_, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096, .i32⟩
  | 80 => ⟨S4096, .i32⟩
  | 81 => ⟨S4096, .i32⟩
  | 82 => ⟨S_, .i32⟩
  | 83 => ⟨S_, .i32⟩
  | 84 => ⟨S4096, .i32⟩
  | 85 => ⟨S4096, .i32⟩
  | 86 => ⟨S4096, .i32⟩
  | 87 => ⟨S_, .i32⟩
  | 88 => ⟨S4096, .i32⟩
  | 89 => ⟨S4096, .i1⟩
  | 90 => ⟨S4096, .i32⟩
  | 91 => ⟨S4096, .i32⟩
  | 92 => ⟨S_, .i32⟩
  | 93 => ⟨S4096, .i32⟩
  | 94 => ⟨S4096, .i1⟩
  | 95 => ⟨S4096, .i1⟩
  | 96 => ⟨S_, .i32⟩
  | 97 => ⟨S4096, .i32⟩
  | 98 => ⟨S4096, .i32⟩
  | 99 => ⟨S4096, .i32⟩
  | 100 => ⟨S_, .i32⟩
  | 101 => ⟨S4992, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4992, .i32⟩
  | 111 => ⟨S_, .f32⟩
  | 112 => ⟨S4992, .f32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S4992, .f32⟩
  | 122 => ⟨S39, .i32⟩
  | 123 => ⟨S_, .i32⟩
  | 124 => ⟨S39, .i32⟩
  | 125 => ⟨S39, .i32⟩
  | 126 => ⟨S39x1, .i32⟩
  | 127 => ⟨S1x8, .i32⟩
  | _ => ⟨S1x2048x1024, .f32⟩

abbrev hbmTy0_1 (i : Nat) : BufTy := match i % 128 with
  | 0 => ⟨S39x8, .i32⟩
  | 1 => ⟨S39x8, .i32⟩
  | 2 => ⟨S39x8, .i1⟩
  | 3 => ⟨S39x8, .i32⟩
  | 4 => ⟨S_, .i32⟩
  | 5 => ⟨S39, .i32⟩
  | 6 => ⟨S_, .i32⟩
  | 7 => ⟨S39, .i32⟩
  | 8 => ⟨S39, .i32⟩
  | 9 => ⟨S_, .i32⟩
  | 10 => ⟨S16, .i32⟩
  | 11 => ⟨S_, .i32⟩
  | 12 => ⟨S4992, .i32⟩
  | 13 => ⟨S4992, .i1⟩
  | 14 => ⟨S_, .i32⟩
  | 15 => ⟨S4992, .i32⟩
  | 16 => ⟨S4992, .i32⟩
  | 17 => ⟨S4992, .i32⟩
  | 18 => ⟨S4992x1, .i32⟩
  | 19 => ⟨S4992x1024, .f32⟩
  | 20 => ⟨S4992x1, .f32⟩
  | 21 => ⟨S7040x1024, .f32⟩
  | 22 => ⟨S2048x1024, .f32⟩
  | 23 => ⟨S_, .f32⟩
  | 24 => ⟨S2048x1024, .f32⟩
  | 25 => ⟨S4992x1024, .f32⟩
  | 26 => ⟨S_, .i32⟩
  | 27 => ⟨S4992, .i32⟩
  | 28 => ⟨S4992, .i1⟩
  | 29 => ⟨S_, .i32⟩
  | 30 => ⟨S4992, .i32⟩
  | 31 => ⟨S4992, .i32⟩
  | 32 => ⟨S4992, .i32⟩
  | 33 => ⟨S4992x1, .i32⟩
  | 34 => ⟨S2048x1024, .f32⟩
  | 35 => ⟨S2048x1024, .f32⟩
  | 36 => ⟨S1x2048x1024, .f32⟩
  | 37 => ⟨S_, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S8x1024, .f32⟩
  | .local _ .vmem, ⟨2, _⟩ => ⟨S2048x2, .i32⟩
  | .local _ .vmem, ⟨3, _⟩ => ⟨S2048x2, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S128x1, .f32⟩
  | .local _ .vmem, ⟨15, _⟩ => ⟨S128x1, .f32⟩
  | .local _ .vmem, ⟨16, _⟩ => ⟨S128x1024, .f32⟩
  | .local _ .vmem, ⟨17, _⟩ => ⟨S128x1024, .f32⟩
  | .local _ .smem, ⟨0, _⟩ => ⟨S55, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_c_0 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_call1_call0_c : Ref sig .tc := ⟨.hbm, 58, rfl⟩
abbrev main_call1_call0_v0 : Ref sig .tc := ⟨.hbm, 59, rfl⟩
abbrev main_v28 : Ref sig .tc := ⟨.hbm, 60, rfl⟩
abbrev main_v29 : Ref sig .tc := ⟨.hbm, 61, rfl⟩
abbrev main_call2_call0_c : Ref sig .tc := ⟨.hbm, 62, rfl⟩
abbrev main_call2_call0_v0 : Ref sig .tc := ⟨.hbm, 63, rfl⟩
abbrev main_v30 : Ref sig .tc := ⟨.hbm, 64, rfl⟩
abbrev main_c_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_5 : Ref sig .tc := ⟨.hbm, 69, rfl⟩
abbrev main_v34 : Ref sig .tc := ⟨.hbm, 70, rfl⟩
abbrev main_c_6 : Ref sig .tc := ⟨.hbm, 71, rfl⟩
abbrev main_v35 : Ref sig .tc := ⟨.hbm, 72, rfl⟩
abbrev main_v36 : Ref sig .tc := ⟨.hbm, 73, rfl⟩
abbrev main_c_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_8 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v44 : Ref sig .tc := ⟨.hbm, 99, rfl⟩
abbrev main_c_9 : Ref sig .tc := ⟨.hbm, 100, rfl⟩
abbrev main_v45 : Ref sig .tc := ⟨.hbm, 101, rfl⟩
abbrev main_c_10 : Ref sig .tc := ⟨.hbm, 102, rfl⟩
abbrev main_v46 : Ref sig .tc := ⟨.hbm, 103, rfl⟩
abbrev main_v47 : Ref sig .tc := ⟨.hbm, 104, rfl⟩
abbrev main_c_11 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_cst : Ref sig .tc := ⟨.hbm, 111, rfl⟩
abbrev main_v53 : Ref sig .tc := ⟨.hbm, 112, rfl⟩
abbrev main_c_12 : Ref sig .tc := ⟨.hbm, 113, rfl⟩
abbrev main_v54 : Ref sig .tc := ⟨.hbm, 114, rfl⟩
abbrev main_v55 : Ref sig .tc := ⟨.hbm, 115, rfl⟩
abbrev main_c_13 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_14 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_c_15 : Ref sig .tc := ⟨.hbm, 132, rfl⟩
abbrev main_v70 : Ref sig .tc := ⟨.hbm, 133, rfl⟩
abbrev main_c_16 : Ref sig .tc := ⟨.hbm, 134, rfl⟩
abbrev main_v71 : Ref sig .tc := ⟨.hbm, 135, rfl⟩
abbrev main_v72 : Ref sig .tc := ⟨.hbm, 136, rfl⟩
abbrev main_c_17 : Ref sig .tc := ⟨.hbm, 137, rfl⟩
abbrev main_v73 : Ref sig .tc := ⟨.hbm, 138, rfl⟩
abbrev main_c_18 : Ref sig .tc := ⟨.hbm, 139, rfl⟩
abbrev main_v75 : Ref sig .tc := ⟨.hbm, 140, rfl⟩
abbrev main_v76 : Ref sig .tc := ⟨.hbm, 141, rfl⟩
abbrev main_c_19 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_20 : Ref sig .tc := ⟨.hbm, 151, rfl⟩
abbrev main_v85 : Ref sig .tc := ⟨.hbm, 152, rfl⟩
abbrev main_v86 : Ref sig .tc := ⟨.hbm, 153, rfl⟩
abbrev main_c_21 : Ref sig .tc := ⟨.hbm, 154, rfl⟩
abbrev main_v87 : Ref sig .tc := ⟨.hbm, 155, rfl⟩
abbrev main_v88 : Ref sig .tc := ⟨.hbm, 156, rfl⟩
abbrev main_c_22 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_cst_23 : Ref sig .tc := ⟨.hbm, 165, rfl⟩
abbrev main_v74 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![55], ![false]⟩

abbrev pre1 : Pipeline.Prefetch sig := ⟨1, ![main_v74.idx], fun | 0 => main_v74.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (k1_off1_inb : ∀ i : grid1.Coords, ∀ a, (k1_off1 i) a + S1.size a ≤ S55.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S55) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S55.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S55) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S55.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S55) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1x2048x1024 : Shape := ⟨3, ![1, 2048, 1024]⟩
abbrev S8x1024 : Shape := ⟨2, ![8, 1024]⟩
abbrev S8x2048x1024 : Shape := ⟨3, ![8, 2048, 1024]⟩
abbrev S8x1024x2048 : Shape := ⟨3, ![8, 1024, 2048]⟩
abbrev S2048x1024 : Shape := ⟨2, ![2048, 1024]⟩
abbrev S1024x2048 : Shape := ⟨2, ![1024, 2048]⟩
abbrev S1024x8 : Shape := ⟨2, ![1024, 8]⟩
abbrev S1x2048x8 : Shape := ⟨3, ![1, 2048, 8]⟩
abbrev S1x2048x2 : Shape := ⟨3, ![1, 2048, 2]⟩
abbrev S_ : Shape := ⟨0, ![]⟩
abbrev S1x2048 : Shape := ⟨2, ![1, 2048]⟩
abbrev S1x2048x1 : Shape := ⟨3, ![1, 2048, 1]⟩
abbrev S2048x2 : Shape := ⟨2, ![2048, 2]⟩
abbrev S2048 : Shape := ⟨1, ![2048]⟩
abbrev S1x1024x2048 : Shape := ⟨3, ![1, 1024, 2048]⟩
abbrev S2048x2048 : Shape := ⟨2, ![2048, 2048]⟩
abbrev S2048x1 : Shape := ⟨2, ![2048, 1]⟩

abbrev nBuf : Space → Nat
  | .hbm => 316
  | .vmem => 0
  | .smem => 0
  | _ => 0

abbrev hbmTy0_0 (i : Nat) : BufTy := match i % 128 with
  | 0 => ⟨S1x2048x1024, .f32⟩
  | 1 => ⟨S8x1024, .f32⟩
  | 2 => ⟨S8x2048x1024, .f32⟩
  | 3 => ⟨S8x2048x1024, .f32⟩
  | 4 => ⟨S8x1024x2048, .f32⟩
  | 5 => ⟨S2048x1024, .f32⟩
  | 6 => ⟨S2048x1024, .f32⟩
  | 7 => ⟨S1024x2048, .f32⟩
  | 8 => ⟨S1024x8, .f32⟩
  | 9 => ⟨S1x2048x8, .f32⟩
  | 10 => ⟨S1x2048x2, .f32⟩
  | 11 => ⟨S1x2048x2, .i32⟩
  | 12 => ⟨S_, .f32⟩
  | 13 => ⟨S1x2048, .f32⟩
  | 14 => ⟨S_, .f32⟩
  | 15 => ⟨S1x2048, .f32⟩
  | 16 => ⟨S1x2048, .f32⟩
  | 17 => ⟨S1x2048x1, .f32⟩
  | 18 => ⟨S1x2048x2, .f32⟩
  | 19 => ⟨S1x2048x2, .f32⟩
  | 20 => ⟨S1x2048x2, .f32⟩
  | 21 => ⟨S_, .f32⟩
  | 22 => ⟨S1x2048, .f32⟩
  | 23 => ⟨S1x2048x1, .f32⟩
  | 24 => ⟨S1x2048x2, .f32⟩
  | 25 => ⟨S1x2048x2, .f32⟩
  | 26 => ⟨S2048x1024, .f32⟩
  | 27 => ⟨S2048x2, .i32⟩
  | 28 => ⟨S2048x2, .f32⟩
  | 29 => ⟨S_, .f32⟩
  | 30 => ⟨S2048x1024, .f32⟩
  | 31 => ⟨S_, .i32⟩
  | 32 => ⟨S2048x2, .i32⟩
  | 33 => ⟨S2048x2, .i1⟩
  | 34 => ⟨S2048x2, .f32⟩
  | 35 => ⟨S2048x2, .f32⟩
  | 36 => ⟨S_, .f32⟩
  | 37 => ⟨S2048, .f32⟩
  | 38 => ⟨S1x2048x1024, .f32⟩
  | 39 => ⟨S2048x1024, .f32⟩
  | 40 => ⟨S1x2048x1024, .f32⟩
  | 41 => ⟨S2048x1024, .f32⟩
  | 42 => ⟨S1x1024x2048, .f32⟩
  | 43 => ⟨S1024x2048, .f32⟩
  | 44 => ⟨S1024x2048, .f32⟩
  | 45 => ⟨S2048x2048, .f32⟩
  | 46 => ⟨S2048x2048, .f32⟩
  | 47 => ⟨S2048x2048, .f32⟩
  | 48 => ⟨S_, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .f32⟩
  | 55 => ⟨S1024x2048, .f32⟩
  | 56 => ⟨S2048x2048, .f32⟩
  | 57 => ⟨S2048x2048, .f32⟩
  | 58 => ⟨S2048x1024, .f32⟩
  | 59 => ⟨S2048x1024, .f32⟩
  | 60 => ⟨S2048x1, .f32⟩
  | 61 => ⟨S2048x1024, .f32⟩
  | 62 => ⟨S2048x1024, .f32⟩
  | 63 => ⟨S2048x1024, .f32⟩
  | 64 => ⟨S_, .i32⟩
  | 65 => ⟨S2048x2, .i32⟩
  | 66 => ⟨S2048x2, .i1⟩
  | 67 => ⟨S2048x2, .f32⟩
  | 68 => ⟨S2048x2, .f32⟩
  | 69 => ⟨S_, .f32⟩
  | 70 => ⟨S2048, .f32⟩
  | 71 => ⟨S1x2048x1024, .f32⟩
  | 72 => ⟨S2048x1024, .f32⟩
  | 73 => ⟨S1x2048x1024, .f32⟩
  | 74 => ⟨S2048x1024, .f32⟩
  | 75 => ⟨S1x1024x2048, .f32⟩
  | 76 => ⟨S1024x2048, .f32⟩
  | 77 => ⟨S1024x2048, .f32⟩
  | 78 => ⟨S2048x2048, .f32⟩
  | 79 => ⟨S2048x2048, .f32⟩
  | 80 => ⟨S2048x2048, .f32⟩
  | 81 => ⟨S_, .f32⟩
  | 82 => ⟨S2048x2048, .f32⟩
  | 83 => ⟨S2048x2048, .f32⟩
  | 84 => ⟨S_, .f32⟩
  | 85 => ⟨S2048x2048, .f32⟩
  | 86 => ⟨S2048x2048, .f32⟩
  | 87 => ⟨S2048x2048, .f32⟩
  | 88 => ⟨S1024x2048, .f32⟩
  | 89 => ⟨S2048x2048, .f32⟩
  | 90 => ⟨S2048x2048, .f32⟩
  | 91 => ⟨S2048x1024, .f32⟩
  | 92 => ⟨S2048x1024, .f32⟩
  | 93 => ⟨S2048x1, .f32⟩
  | 94 => ⟨S2048x1024, .f32⟩
  | 95 => ⟨S2048x1024, .f32⟩
  | 96 => ⟨S2048x1024, .f32⟩
  | 97 => ⟨S_, .i32⟩
  | 98 => ⟨S2048x2, .i32⟩
  | 99 => ⟨S2048x2, .i1⟩
  | 100 => ⟨S2048x2, .f32⟩
  | 101 => ⟨S2048x2, .f32⟩
  | 102 => ⟨S_, .f32⟩
  | 103 => ⟨S2048, .f32⟩
  | 104 => ⟨S1x2048x1024, .f32⟩
  | 105 => ⟨S2048x1024, .f32⟩
  | 106 => ⟨S1x2048x1024, .f32⟩
  | 107 => ⟨S2048x1024, .f32⟩
  | 108 => ⟨S1x1024x2048, .f32⟩
  | 109 => ⟨S1024x2048, .f32⟩
  | 110 => ⟨S1024x2048, .f32⟩
  | 111 => ⟨S2048x2048, .f32⟩
  | 112 => ⟨S2048x2048, .f32⟩
  | 113 => ⟨S2048x2048, .f32⟩
  | 114 => ⟨S_, .f32⟩
  | 115 => ⟨S2048x2048, .f32⟩
  | 116 => ⟨S2048x2048, .f32⟩
  | 117 => ⟨S_, .f32⟩
  | 118 => ⟨S2048x2048, .f32⟩
  | 119 => ⟨S2048x2048, .f32⟩
  | 120 => ⟨S2048x2048, .f32⟩
  | 121 => ⟨S1024x2048, .f32⟩
  | 122 => ⟨S2048x2048, .f32⟩
  | 123 => ⟨S2048x2048, .f32⟩
  | 124 => ⟨S2048x1024, .f32⟩
  | 125 => ⟨S2048x1024, .f32⟩
  | 126 => ⟨S2048x1, .f32⟩
  | 127 => ⟨S2048x1024, .f32⟩
  | _ => ⟨S1x2048x1024, .f32⟩

abbrev hbmTy0_1 (i : Nat) : BufTy := match i % 128 with
  | 0 => ⟨S2048x1024, .f32⟩
  | 1 => ⟨S2048x1024, .f32⟩
  | 2 => ⟨S_, .i32⟩
  | 3 => ⟨S2048x2, .i32⟩
  | 4 => ⟨S2048x2, .i1⟩
  | 5 => ⟨S2048x2, .f32⟩
  | 6 => ⟨S2048x2, .f32⟩
  | 7 => ⟨S_, .f32⟩
  | 8 => ⟨S2048, .f32⟩
  | 9 => ⟨S1x2048x1024, .f32⟩
  | 10 => ⟨S2048x1024, .f32⟩
  | 11 => ⟨S1x2048x1024, .f32⟩
  | 12 => ⟨S2048x1024, .f32⟩
  | 13 => ⟨S1x1024x2048, .f32⟩
  | 14 => ⟨S1024x2048, .f32⟩
  | 15 => ⟨S1024x2048, .f32⟩
  | 16 => ⟨S2048x2048, .f32⟩
  | 17 => ⟨S2048x2048, .f32⟩
  | 18 => ⟨S2048x2048, .f32⟩
  | 19 => ⟨S_, .f32⟩
  | 20 => ⟨S2048x2048, .f32⟩
  | 21 => ⟨S2048x2048, .f32⟩
  | 22 => ⟨S_, .f32⟩
  | 23 => ⟨S2048x2048, .f32⟩
  | 24 => ⟨S2048x2048, .f32⟩
  | 25 => ⟨S2048x2048, .f32⟩
  | 26 => ⟨S1024x2048, .f32⟩
  | 27 => ⟨S2048x2048, .f32⟩
  | 28 => ⟨S2048x2048, .f32⟩
  | 29 => ⟨S2048x1024, .f32⟩
  | 30 => ⟨S2048x1024, .f32⟩
  | 31 => ⟨S2048x1, .f32⟩
  | 32 => ⟨S2048x1024, .f32⟩
  | 33 => ⟨S2048x1024, .f32⟩
  | 34 => ⟨S2048x1024, .f32⟩
  | 35 => ⟨S_, .i32⟩
  | 36 => ⟨S2048x2, .i32⟩
  | 37 => ⟨S2048x2, .i1⟩
  | 38 => ⟨S2048x2, .f32⟩
  | 39 => ⟨S2048x2, .f32⟩
  | 40 => ⟨S_, .f32⟩
  | 41 => ⟨S2048, .f32⟩
  | 42 => ⟨S1x2048x1024, .f32⟩
  | 43 => ⟨S2048x1024, .f32⟩
  | 44 => ⟨S1x2048x1024, .f32⟩
  | 45 => ⟨S2048x1024, .f32⟩
  | 46 => ⟨S1x1024x2048, .f32⟩
  | 47 => ⟨S1024x2048, .f32⟩
  | 48 => ⟨S1024x2048, .f32⟩
  | 49 => ⟨S2048x2048, .f32⟩
  | 50 => ⟨S2048x2048, .f32⟩
  | 51 => ⟨S2048x2048, .f32⟩
  | 52 => ⟨S_, .f32⟩
  | 53 => ⟨S2048x2048, .f32⟩
  | 54 => ⟨S2048x2048, .f32⟩
  | 55 => ⟨S_, .f32⟩
  | 56 => ⟨S2048x2048, .f32⟩
  | 57 => ⟨S2048x2048, .f32⟩
  | 58 => ⟨S2048x2048, .f32⟩
  | 59 => ⟨S1024x2048, .f32⟩
  | 60 => ⟨S2048x2048, .f32⟩
  | 61 => ⟨S2048x2048, .f32⟩
  | 62 => ⟨S2048x1024, .f32⟩
  | 63 => ⟨S2048x1024, .f32⟩
  | 64 => ⟨S2048x1, .f32⟩
  | 65 => ⟨S2048x1024, .f32⟩
  | 66 => ⟨S2048x1024, .f32⟩
  | 67 => ⟨S2048x1024, .f32⟩
  | 68 => ⟨S_, .i32⟩
  | 69 => ⟨S2048x2, .i32⟩
  | 70 => ⟨S2048x2, .i1⟩
  | 71 => ⟨S2048x2, .f32⟩
  | 72 => ⟨S2048x2, .f32⟩
  | 73 => ⟨S_, .f32⟩
  | 74 => ⟨S2048, .f32⟩
  | 75 => ⟨S1x2048x1024, .f32⟩
  | 76 => ⟨S2048x1024, .f32⟩
  | 77 => ⟨S1x2048x1024, .f32⟩
  | 78 => ⟨S2048x1024, .f32⟩
  | 79 => ⟨S1x1024x2048, .f32⟩
  | 80 => ⟨S1024x2048, .f32⟩
  | 81 => ⟨S1024x2048, .f32⟩
  | 82 => ⟨S2048x2048, .f32⟩
  | 83 => ⟨S2048x2048, .f32⟩
  | 84 => ⟨S2048x2048, .f32⟩
  | 85 => ⟨S_, .f32⟩
  | 86 => ⟨S2048x2048, .f32⟩
  | 87 => ⟨S2048x2048, .f32⟩
  | 88 => ⟨S_, .f32⟩
  | 89 => ⟨S2048x2048, .f32⟩
  | 90 => ⟨S2048x2048, .f32⟩
  | 91 => ⟨S2048x2048, .f32⟩
  | 92 => ⟨S1024x2048, .f32⟩
  | 93 => ⟨S2048x2048, .f32⟩
  | 94 => ⟨S2048x2048, .f32⟩
  | 95 => ⟨S2048x1024, .f32⟩
  | 96 => ⟨S2048x1024, .f32⟩
  | 97 => ⟨S2048x1, .f32⟩
  | 98 => ⟨S2048x1024, .f32⟩
  | 99 => ⟨S2048x1024, .f32⟩
  | 100 => ⟨S2048x1024, .f32⟩
  | 101 => ⟨S_, .i32⟩
  | 102 => ⟨S2048x2, .i32⟩
  | 103 => ⟨S2048x2, .i1⟩
  | 104 => ⟨S2048x2, .f32⟩
  | 105 => ⟨S2048x2, .f32⟩
  | 106 => ⟨S_, .f32⟩
  | 107 => ⟨S2048, .f32⟩
  | 108 => ⟨S1x2048x1024, .f32⟩
  | 109 => ⟨S2048x1024, .f32⟩
  | 110 => ⟨S1x2048x1024, .f32⟩
  | 111 => ⟨S2048x1024, .f32⟩
  | 112 => ⟨S1x1024x2048, .f32⟩
  | 113 => ⟨S1024x2048, .f32⟩
  | 114 => ⟨S1024x2048, .f32⟩
  | 115 => ⟨S2048x2048, .f32⟩
  | 116 => ⟨S2048x2048, .f32⟩
  | 117 => ⟨S2048x2048, .f32⟩
  | 118 => ⟨S_, .f32⟩
  | 119 => ⟨S2048x2048, .f32⟩
  | 120 => ⟨S2048x2048, .f32⟩
  | 121 => ⟨S_, .f32⟩
  | 122 => ⟨S2048x2048, .f32⟩
  | 123 => ⟨S2048x2048, .f32⟩
  | 124 => ⟨S2048x2048, .f32⟩
  | 125 => ⟨S1024x2048, .f32⟩
  | 126 => ⟨S2048x2048, .f32⟩
  | 127 => ⟨S2048x2048, .f32⟩
  | _ => ⟨S1x2048x1024, .f32⟩

abbrev hbmTy0_2 (i : Nat) : BufTy := match i % 128 with
  | 0 => ⟨S2048x1024, .f32⟩
  | 1 => ⟨S2048x1024, .f32⟩
  | 2 => ⟨S2048x1, .f32⟩
  | 3 => ⟨S2048x1024, .f32⟩
  | 4 => ⟨S2048x1024, .f32⟩
  | 5 => ⟨S2048x1024, .f32⟩
  | 6 => ⟨S_, .i32⟩
  | 7 => ⟨S2048x2, .i32⟩
  | 8 => ⟨S2048x2, .i1⟩
  | 9 => ⟨S2048x2, .f32⟩
  | 10 => ⟨S2048x2, .f32⟩
  | 11 => ⟨S_, .f32⟩
  | 12 => ⟨S2048, .f32⟩
  | 13 => ⟨S1x2048x1024, .f32⟩
  | 14 => ⟨S2048x1024, .f32⟩
  | 15 => ⟨S1x2048x1024, .f32⟩
  | 16 => ⟨S2048x1024, .f32⟩
  | 17 => ⟨S1x1024x2048, .f32⟩
  | 18 => ⟨S1024x2048, .f32⟩
  | 19 => ⟨S1024x2048, .f32⟩
  | 20 => ⟨S2048x2048, .f32⟩
  | 21 => ⟨S2048x2048, .f32⟩
  | 22 => ⟨S2048x2048, .f32⟩
  | 23 => ⟨S_, .f32⟩
  | 24 => ⟨S2048x2048, .f32⟩
  | 25 => ⟨S2048x2048, .f32⟩
  | 26 => ⟨S_, .f32⟩
  | 27 => ⟨S2048x2048, .f32⟩
  | 28 => ⟨S2048x2048, .f32⟩
  | 29 => ⟨S2048x2048, .f32⟩
  | 30 => ⟨S1024x2048, .f32⟩
  | 31 => ⟨S2048x2048, .f32⟩
  | 32 => ⟨S2048x2048, .f32⟩
  | 33 => ⟨S2048x1024, .f32⟩
  | 34 => ⟨S2048x1024, .f32⟩
  | 35 => ⟨S2048x1, .f32⟩
  | 36 => ⟨S2048x1024, .f32⟩
  | 37 => ⟨S2048x1024, .f32⟩
  | 38 => ⟨S2048x1024, .f32⟩
  | 39 => ⟨S2048x1024, .f32⟩
  | 40 => ⟨S1024x2048, .f32⟩
  | 41 => ⟨S2048x2048, .f32⟩
  | 42 => ⟨S2048x2048, .f32⟩
  | 43 => ⟨S2048x2048, .f32⟩
  | 44 => ⟨S_, .f32⟩
  | 45 => ⟨S2048x2048, .f32⟩
  | 46 => ⟨S2048x2048, .f32⟩
  | 47 => ⟨S_, .f32⟩
  | 48 => ⟨S2048x2048, .f32⟩
  | 49 => ⟨S2048x2048, .f32⟩
  | 50 => ⟨S2048x2048, .f32⟩
  | 51 => ⟨S1024x2048, .f32⟩
  | 52 => ⟨S2048x2048, .f32⟩
  | 53 => ⟨S2048x2048, .f32⟩
  | 54 => ⟨S2048x1024, .f32⟩
  | 55 => ⟨S2048x1024, .f32⟩
  | 56 => ⟨S1x2048x1024, .f32⟩
  | 57 => ⟨S1x2048x1024, .f32⟩
  | 58 => ⟨S1x2048x1024, .f32⟩
  | 59 => ⟨S_, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_values : Ref sig .tc := ⟨.hbm, 10, rfl⟩
abbrev main_indices : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_6 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_7 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_8 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_9 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call3_v0 : Ref sig .tc := ⟨.hbm, 145, rfl⟩
abbrev main_call3_v1 : Ref sig .tc := ⟨.hbm, 146, rfl⟩
abbrev main_call3_cst : Ref sig .tc := ⟨.hbm, 147, rfl⟩
abbrev main_call3_v2 : Ref sig .tc := ⟨.hbm, 148, rfl⟩
abbrev main_call3_v3 : Ref sig .tc := ⟨.hbm, 149, rfl⟩
abbrev main_call3_cst_0 : Ref sig .tc := ⟨.hbm, 150, rfl⟩
abbrev main_call3_v4 : Ref sig .tc := ⟨.hbm, 151, rfl⟩
abbrev main_call3_v5 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c_10 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_11 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_call4_v0 : Ref sig .tc := ⟨.hbm, 178, rfl⟩
abbrev main_call4_v1 : Ref sig .tc := ⟨.hbm, 179, rfl⟩
abbrev main_call4_cst : Ref sig .tc := ⟨.hbm, 180, rfl⟩
abbrev main_call4_v2 : Ref sig .tc := ⟨.hbm, 181, rfl⟩
abbrev main_call4_v3 : Ref sig .tc := ⟨.hbm, 182, rfl⟩
abbrev main_call4_cst_0 : Ref sig .tc := ⟨.hbm, 183, rfl⟩
abbrev main_call4_v4 : Ref sig .tc := ⟨.hbm, 184, rfl⟩
abbrev main_call4_v5 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_c_12 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_cst_13 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_call5_v0 : Ref sig .tc := ⟨.hbm, 211, rfl⟩
abbrev main_call5_v1 : Ref sig .tc := ⟨.hbm, 212, rfl⟩
abbrev main_call5_cst : Ref sig .tc := ⟨.hbm, 213, rfl⟩
abbrev main_call5_v2 : Ref sig .tc := ⟨.hbm, 214, rfl⟩
abbrev main_call5_v3 : Ref sig .tc := ⟨.hbm, 215, rfl⟩
abbrev main_call5_cst_0 : Ref sig .tc := ⟨.hbm, 216, rfl⟩
abbrev main_call5_v4 : Ref sig .tc := ⟨.hbm, 217, rfl⟩
abbrev main_call5_v5 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_c_14 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_cst_15 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_call6_v0 : Ref sig .tc := ⟨.hbm, 244, rfl⟩
abbrev main_call6_v1 : Ref sig .tc := ⟨.hbm, 245, rfl⟩
abbrev main_call6_cst : Ref sig .tc := ⟨.hbm, 246, rfl⟩
abbrev main_call6_v2 : Ref sig .tc := ⟨.hbm, 247, rfl⟩
abbrev main_call6_v3 : Ref sig .tc := ⟨.hbm, 248, rfl⟩
abbrev main_call6_cst_0 : Ref sig .tc := ⟨.hbm, 249, rfl⟩
abbrev main_call6_v4 : Ref sig .tc := ⟨.hbm, 250, rfl⟩
abbrev main_call6_v5 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_c_16 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_cst_17 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_call7_v0 : Ref sig .tc := ⟨.hbm, 277, rfl⟩
abbrev main_call7_v1 : Ref sig .tc := ⟨.hbm, 278, rfl⟩
abbrev main_call7_cst : Ref sig .tc := ⟨.hbm, 279, rfl⟩
abbrev main_call7_v2 : Ref sig .tc := ⟨.hbm, 280, rfl⟩
abbrev main_call7_v3 : Ref sig .tc := ⟨.hbm, 281, rfl⟩
abbrev main_call7_cst_0 : Ref sig .tc := ⟨.hbm, 282, rfl⟩
abbrev main_call7_v4 : Ref sig .tc := ⟨.hbm, 283, rfl⟩
abbrev main_call7_v5 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_call8_v0 : Ref sig .tc := ⟨.hbm, 298, rfl⟩
abbrev main_call8_v1 : Ref sig .tc := ⟨.hbm, 299, rfl⟩
abbrev main_call8_cst : Ref sig .tc := ⟨.hbm, 300, rfl⟩
abbrev main_call8_v2 : Ref sig .tc := ⟨.hbm, 301, rfl⟩
abbrev main_call8_v3 : Ref sig .tc := ⟨.hbm, 302, rfl⟩
abbrev main_call8_cst_0 : Ref sig .tc := ⟨.hbm, 303, rfl⟩
abbrev main_call8_v4 : Ref sig .tc := ⟨.hbm, 304, rfl⟩
abbrev main_call8_v5 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_cst_18 : Ref sig .tc := ⟨.hbm, 315, rfl⟩

abbrev nD : Nat := 1
abbrev τ : Topo := Topo.v7x

variable {F : FTy → Type} [FloatOps F]
-- ==== Proof.Router.lean ====
/-
  The router call (region 0): its body run at its one point, its proof data over any entry valuation, and its region
  record over the thread state "every unscoped buffer held at a valuation, and nothing owed".
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysT
public import Idealize.ShloMosaic.Lib.Claim
public import Idealize.ShloMosaic.Lib.Ring
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the whole run: the pipeline library's own. -/
abbrev UU : Type := UR sig nD τ

local notation "𝕄" => MT nD τ sig Unit (Elt F) ℕ UU ℕ

/-- One unit of wait permission per semaphore of a TensorCore: what a region's transfers wait on. -/
abbrev L : GSem nD τ sig → Finset Unit := fun g => if g.1.2 = .tc then {()} else ∅
/-- The level of every wait, read nowhere. -/
abbrev lv : GSem nD τ sig → Unit → ℕ := fun _ _ => 0

/-! ## The body -/

/-- The whole token array, as the body loads it. -/
abbrev rX : Rect S2048x1024 := Rect.unit (s := S2048x1024) ![0, 0] S2048x1024.size inb_S2048x1024_S2048x1024_0_0
/-- The whole router matrix. -/
abbrev rW : Rect S8x1024 := Rect.unit (s := S8x1024) ![0, 0] S8x1024.size inb_S8x1024_S8x1024_0_0
/-- A whole two-column result. -/
abbrev rO : Rect S2048x2 := Rect.unit (s := S2048x2) ![0, 0] S2048x2.size inb_S2048x2_S2048x2_0_0

/-- The chosen experts, from the tokens and the router matrix. -/
def selOf (x : Vec F S2048x1024 .f32) (w : Vec F S8x1024 .f32) : Vec F S2048x2 .i32 :=
  View.canon [⟨rO, k0_pay6 (View.ld x rX) (View.ld w rW)⟩]

/-- The chosen experts' weights, from the tokens and the router matrix. -/
def wgtOf (x : Vec F S2048x1024 .f32) (w : Vec F S8x1024 .f32) : Vec F S2048x2 .f32 :=
  View.canon [⟨rO, k0_pay7 (View.ld x rX) (View.ld w rW)⟩]

/-- One store of the whole result covers it. -/
theorem cover_rO {e : EltTy} (p : Vec F S2048x2 e) (y : S2048x2.Idx) :
    ∃ pc ∈ ([⟨rO, p⟩] : List (View.Piece (Elt F) S2048x2 e)), y ∈ pc.1.set :=
  View.cover_of_tiled [⟨rO, p⟩] S2048x2.size (by rfl) y

set_option maxHeartbeats 1000000 in
/-- The router's body on whole staging buffers: the inputs stay, the outputs hold the chosen experts and the weights. -/
theorem router_run (c : Dev nD) (E : Set ℕ) (arg0 : Memref sig .tc .vmem S2048x1024 .f32) (harg0 : arg0.IsWhole) (arg1 : Memref sig .tc .vmem S8x1024 .f32) (harg1 : arg1.IsWhole) (arg2 : Memref sig .tc .vmem S2048x2 .i32) (harg2 : arg2.IsWhole) (arg3 : Memref sig .tc .vmem S2048x2 .f32) (harg3 : arg3.IsWhole)
    (x0 : Vec F S2048x1024 .f32) (x1 : Vec F S8x1024 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (selOf x0 x1) ∗ owns (c : Thread nD τ) arg3 fullShare (wgtOf x0 x1)) -∗ K ⟨⟩))
      ⊢ wp frame (wpE (defs₀ (F := F)) Variants.none c none) E (cc0__router_body arg0 harg0 arg1 harg1 arg2 harg2 arg3 harg3) K := by
  simp only [cc0__router_body_eq_skeleton]; unfold cc0__router_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_rO _)
  iexists _; isplitr
  swap; · iexact H3
  ipureintro
  exact View.read_writes_eq_canon _ _ _ (cover_rO _)

/-! ## The proof data, at an entry valuation -/

variable (V : (c : Dev nD) → Valuation τ sig (Elt F))

/-- An input's block, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The router's proof data. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => selOf (blk0 V c 0 t) (blk0 V c 1 t)
    | ⟨3, _⟩ => wgtOf (blk0 V c 0 t) (blk0 V c 1 t)
  Φ _ := Pipeline.scopedRest spec0 c
  q _ := fullShare
  owed _ := 0

theorem A0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = selOf (blk0 V c 0 t) (blk0 V c 1 t) := by dsimp only [dat0]
theorem after0_3 (c : Dev nD) (t : Fin cfg0.N) : (dat0 V c).after 3 t = wgtOf (blk0 V c 0 t) (blk0 V c 1 t) := by dsimp only [dat0]

/-- The tokens' staging buffer holds their block when the body runs. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0]; try rfl) t d).trans
    (by unfold Dat.fetched Dat.blockOf blk0; rw [A0]; try rfl)
/-- And the router matrix's. -/
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0]; try rfl) t d).trans
    (by unfold Dat.fetched Dat.blockOf blk0; rw [A0]; try rfl)

/-- The body's call at a point is `bodyAt0`. -/
theorem row0 (t : Fin cfg0.N) :
    defs₀ (F := F) .tc cfg0.body (cfg0.bodyArgs t (cfg0.slots t)) = bodyAt0 t := by
  unfold defs₀; rw [Defs.onTc_tc]

/-- What the body is called with. -/
def pre0At (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns. -/
def post0At (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at its point. -/
theorem body0 (c : Dev nD) (t : Fin cfg0.N) :
    pre0At V c t ⊢ wp frame (wpE (defs₀ (F := F)) Variants.none c none) Set.univ (bodyAt0 t) (fun _ => post0At V c t) := by
  unfold pre0At post0At bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (router_run c Set.univ _ _ _ _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.Proof

end
-- ==== Proof.Ffn.lean ====
/-
  The expert call (region 1): its body run at any point, its proof data over any entry valuation and any admissible
  contents of the prefetched table. The body never reads the table, which the invariant holds whole.
-/
module

public import proofs.«01_k».proof.Proof.Router

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body -/

/-- A whole block of rows. -/
abbrev rR : Rect S128x1024 := Rect.unit (s := S128x1024) ![0, 0] S128x1024.size inb_S128x1024_S128x1024_0_0
/-- A whole gate or up matrix. -/
abbrev rG : Rect S1x2048x1024 := Rect.unit (s := S1x2048x1024) ![0, 0, 0] S1x2048x1024.size inb_S1x2048x1024_S1x2048x1024_0_0_0
/-- A whole down matrix. -/
abbrev rD : Rect S1x1024x2048 := Rect.unit (s := S1x1024x2048) ![0, 0, 0] S1x1024x2048.size inb_S1x1024x2048_S1x1024x2048_0_0_0
/-- A whole block of row weights. -/
abbrev rS : Rect S128x1 := Rect.unit (s := S128x1) ![0, 0] S128x1.size inb_S128x1_S128x1_0_0

/-- The block of results at grid point `i`, from the six input blocks. -/
def ffnOf (i : grid1.Coords) (x0 : Vec F S128x1024 .f32) (x1 : Vec F S128x1024 .f32) (x2 : Vec F S1x2048x1024 .bf16)
    (x3 : Vec F S1x2048x1024 .bf16) (x4 : Vec F S1x1024x2048 .bf16) (x5 : Vec F S128x1 .f32) : Vec F S128x1024 .f32 :=
  View.canon [⟨rR, k1_pay1 i (View.ld x0 rR) (View.ld x1 rR) (View.ld x2 rG) (View.ld x3 rG) (View.ld x4 rD) (View.ld x5 rS)⟩]

/-- One store of the whole block covers it. -/
theorem cover_rR (p : Vec F S128x1024 .f32) (y : S128x1024.Idx) :
    ∃ pc ∈ ([⟨rR, p⟩] : List (View.Piece (Elt F) S128x1024 .f32)), y ∈ pc.1.set :=
  View.cover_of_tiled [⟨rR, p⟩] S128x1024.size (by rfl) y

set_option maxHeartbeats 1000000 in
/-- The body on whole staging buffers: the inputs stay, the output holds the block of results. -/
theorem ffn_run (c : Dev nD) (i : grid1.Coords) (E : Set ℕ) (argT : Memref sig .tc .smem S55 .i32) (hargT : argT.IsWhole)
    (arg0 : Memref sig .tc .vmem S128x1024 .f32) (harg0 : arg0.IsWhole) (arg1 : Memref sig .tc .vmem S128x1024 .f32) (harg1 : arg1.IsWhole) (arg2 : Memref sig .tc .vmem S1x2048x1024 .bf16) (harg2 : arg2.IsWhole) (arg3 : Memref sig .tc .vmem S1x2048x1024 .bf16) (harg3 : arg3.IsWhole) (arg4 : Memref sig .tc .vmem S1x1024x2048 .bf16) (harg4 : arg4.IsWhole) (arg5 : Memref sig .tc .vmem S128x1 .f32) (harg5 : arg5.IsWhole) (arg6 : Memref sig .tc .vmem S128x1024 .f32) (harg6 : arg6.IsWhole)
    (x0 : Vec F S128x1024 .f32) (x1 : Vec F S128x1024 .f32) (x2 : Vec F S1x2048x1024 .bf16) (x3 : Vec F S1x2048x1024 .bf16) (x4 : Vec F S1x1024x2048 .bf16) (x5 : Vec F S128x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (ffnOf i x0 x1 x2 x3 x4 x5)) -∗ K ⟨⟩))
      ⊢ wp frame (wpE (defs₀ (F := F)) Variants.none c none) E (cc1__ffn_body i argT hargT arg0 harg0 arg1 harg1 arg2 harg2 arg3 harg3 arg4 harg4 arg5 harg5 arg6 harg6) K := by
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_rR _)

/-! ## The proof data, at an entry valuation and a table -/

variable (V : (c : Dev nD) → Valuation τ sig (Elt F)) (a : (pcfg1 (F := F)).Adm)

/-- An input's block, read off its array as the region finds it. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The block of results at a point. -/
def res1 (c : Dev nD) (t : Fin (cfg1 a).N) : Vec F S128x1024 .f32 :=
  ffnOf (grid1.coords t) (blk1 V a c 0 t) (blk1 V a c 1 t) (blk1 V a c 2 t) (blk1 V a c 3 t) (blk1 V a c 4 t) (blk1 V a c 5 t)

/-- The expert call's proof data. -/
def dat1 (c : Dev nD) : Dat τ (Elt F) Unit ℕ UU ℕ (cfg1 a) c where
  A w := V c (Pipeline.arrRef spec1 w)
  after w t := match w with
    | ⟨0, _⟩ => blk1 V a c 0 t
    | ⟨1, _⟩ => blk1 V a c 1 t
    | ⟨2, _⟩ => blk1 V a c 2 t
    | ⟨3, _⟩ => blk1 V a c 3 t
    | ⟨4, _⟩ => blk1 V a c 4 t
    | ⟨5, _⟩ => blk1 V a c 5 t
    | ⟨6, _⟩ => res1 V a c t
  Φ _ := iprop(Pipeline.scopedRest spec1 c ∗ Pipeline.prefHeld pre1 c (fun _ => fullShare) a.1)
  q _ := fullShare
  owed _ := 0

theorem A1 (c : Dev nD) (w : Fin (cfg1 a).W) : (dat1 V a c).A w = V c (Pipeline.arrRef spec1 w) := by dsimp only [dat1]
theorem after1_0 (c : Dev nD) (t : Fin (cfg1 a).N) : (dat1 V a c).after 0 t = blk1 V a c 0 t := by dsimp only [dat1]; try rfl
theorem after1_1 (c : Dev nD) (t : Fin (cfg1 a).N) : (dat1 V a c).after 1 t = blk1 V a c 1 t := by dsimp only [dat1]; try rfl
theorem after1_2 (c : Dev nD) (t : Fin (cfg1 a).N) : (dat1 V a c).after 2 t = blk1 V a c 2 t := by dsimp only [dat1]; try rfl
theorem after1_3 (c : Dev nD) (t : Fin (cfg1 a).N) : (dat1 V a c).after 3 t = blk1 V a c 3 t := by dsimp only [dat1]; try rfl
theorem after1_4 (c : Dev nD) (t : Fin (cfg1 a).N) : (dat1 V a c).after 4 t = blk1 V a c 4 t := by dsimp only [dat1]; try rfl
theorem after1_5 (c : Dev nD) (t : Fin (cfg1 a).N) : (dat1 V a c).after 5 t = blk1 V a c 5 t := by dsimp only [dat1]; try rfl
theorem after1_6 (c : Dev nD) (t : Fin (cfg1 a).N) : (dat1 V a c).after 6 t = res1 V a c t := by dsimp only [dat1]; try rfl

/-- Input 0's staging buffer holds its block at every point, fetched there or not. -/
theorem before1_0 (c : Dev nD) (t : Fin (cfg1 a).N) (d) : (dat1 V a c).before 0 t d = blk1 V a c 0 t :=
  ((dat1 V a c).before_in_eq_fetched 0 rfl (fun _ => rfl) (fun _ _ _ => rfl) (fun t => by rw [after1_0]; unfold Dat.blockOf blk1; rw [A1]; try rfl) t d).trans
    (by unfold Dat.fetched Dat.blockOf blk1; rw [A1]; try rfl)
/-- Input 1's staging buffer holds its block at every point, fetched there or not. -/
theorem before1_1 (c : Dev nD) (t : Fin (cfg1 a).N) (d) : (dat1 V a c).before 1 t d = blk1 V a c 1 t :=
  ((dat1 V a c).before_in_eq_fetched 1 rfl (fun _ => rfl) (fun _ _ _ => rfl) (fun t => by rw [after1_1]; unfold Dat.blockOf blk1; rw [A1]; try rfl) t d).trans
    (by unfold Dat.fetched Dat.blockOf blk1; rw [A1]; try rfl)
/-- Input 2's staging buffer holds its block at every point, fetched there or not. -/
theorem before1_2 (c : Dev nD) (t : Fin (cfg1 a).N) (d) : (dat1 V a c).before 2 t d = blk1 V a c 2 t :=
  ((dat1 V a c).before_in_eq_fetched 2 rfl (fun _ => rfl) (fun _ _ _ => rfl) (fun t => by rw [after1_2]; unfold Dat.blockOf blk1; rw [A1]; try rfl) t d).trans
    (by unfold Dat.fetched Dat.blockOf blk1; rw [A1]; try rfl)
/-- Input 3's staging buffer holds its block at every point, fetched there or not. -/
theorem before1_3 (c : Dev nD) (t : Fin (cfg1 a).N) (d) : (dat1 V a c).before 3 t d = blk1 V a c 3 t :=
  ((dat1 V a c).before_in_eq_fetched 3 rfl (fun _ => rfl) (fun _ _ _ => rfl) (fun t => by rw [after1_3]; unfold Dat.blockOf blk1; rw [A1]; try rfl) t d).trans
    (by unfold Dat.fetched Dat.blockOf blk1; rw [A1]; try rfl)
/-- Input 4's staging buffer holds its block at every point, fetched there or not. -/
theorem before1_4 (c : Dev nD) (t : Fin (cfg1 a).N) (d) : (dat1 V a c).before 4 t d = blk1 V a c 4 t :=
  ((dat1 V a c).before_in_eq_fetched 4 rfl (fun _ => rfl) (fun _ _ _ => rfl) (fun t => by rw [after1_4]; unfold Dat.blockOf blk1; rw [A1]; try rfl) t d).trans
    (by unfold Dat.fetched Dat.blockOf blk1; rw [A1]; try rfl)
/-- Input 5's staging buffer holds its block at every point, fetched there or not. -/
theorem before1_5 (c : Dev nD) (t : Fin (cfg1 a).N) (d) : (dat1 V a c).before 5 t d = blk1 V a c 5 t :=
  ((dat1 V a c).before_in_eq_fetched 5 rfl (fun _ => rfl) (fun _ _ _ => rfl) (fun t => by rw [after1_5]; unfold Dat.blockOf blk1; rw [A1]; try rfl) t d).trans
    (by unfold Dat.fetched Dat.blockOf blk1; rw [A1]; try rfl)

/-- The body at a point, as the pipeline calls it. -/
abbrev bodyAt1 (t : Fin (cfg1 a).N) : Prog (TpuEff nD τ sig (Elt F) Λ₀ .tc) PUnit :=
  cc1__ffn_body (grid1.coords t) (Memref.whole main_v74) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6))

/-- The body's call at a point is `bodyAt1`. -/
theorem row1 (t : Fin (cfg1 a).N) :
    defs₀ (F := F) .tc (cfg1 a).body ((cfg1 a).bodyArgs t ((cfg1 a).slots t)) = bodyAt1 a t := by
  unfold defs₀; rw [Defs.onTc_tc]

/-- Window 0's current staging buffer. -/
abbrev ms1_0 (t : Fin (cfg1 a).N) : Memref sig .tc .vmem S128x1024 .f32 := spec1_0.stage ((cfg1 a).slots t 0)
/-- Window 1's current staging buffer. -/
abbrev ms1_1 (t : Fin (cfg1 a).N) : Memref sig .tc .vmem S128x1024 .f32 := spec1_1.stage ((cfg1 a).slots t 1)
/-- Window 2's current staging buffer. -/
abbrev ms1_2 (t : Fin (cfg1 a).N) : Memref sig .tc .vmem S1x2048x1024 .bf16 := spec1_2.stage ((cfg1 a).slots t 2)
/-- Window 3's current staging buffer. -/
abbrev ms1_3 (t : Fin (cfg1 a).N) : Memref sig .tc .vmem S1x2048x1024 .bf16 := spec1_3.stage ((cfg1 a).slots t 3)
/-- Window 4's current staging buffer. -/
abbrev ms1_4 (t : Fin (cfg1 a).N) : Memref sig .tc .vmem S1x1024x2048 .bf16 := spec1_4.stage ((cfg1 a).slots t 4)
/-- Window 5's current staging buffer. -/
abbrev ms1_5 (t : Fin (cfg1 a).N) : Memref sig .tc .vmem S128x1 .f32 := spec1_5.stage ((cfg1 a).slots t 5)
/-- Window 6's current staging buffer. -/
abbrev ms1_6 (t : Fin (cfg1 a).N) : Memref sig .tc .vmem S128x1024 .f32 := spec1_6.stage ((cfg1 a).slots t 6)

/-- What the body is called with. -/
def pre1At (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d))
    ∗ (∃ d, owns (c : Thread nD τ) (ms1_4 a t) fullShare ((dat1 V a c).before 4 t d))
    ∗ (∃ d, owns (c : Thread nD τ) (ms1_5 a t) fullShare ((dat1 V a c).before 5 t d))
    ∗ (∃ d, owns (c : Thread nD τ) (ms1_6 a t) fullShare ((dat1 V a c).before 6 t d)))

/-- What the body returns. -/
def post1At (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t)
    ∗ owns (c : Thread nD τ) (ms1_2 a t) fullShare ((dat1 V a c).after 2 t)
    ∗ owns (c : Thread nD τ) (ms1_3 a t) fullShare ((dat1 V a c).after 3 t)
    ∗ owns (c : Thread nD τ) (ms1_4 a t) fullShare ((dat1 V a c).after 4 t)
    ∗ owns (c : Thread nD τ) (ms1_5 a t) fullShare ((dat1 V a c).after 5 t)
    ∗ owns (c : Thread nD τ) (ms1_6 a t) fullShare ((dat1 V a c).after 6 t))

/-- The body at any point. -/
theorem body1 (c : Dev nD) (t : Fin (cfg1 a).N) :
    pre1At V a c t ⊢ wp frame (wpE (defs₀ (F := F)) Variants.none c none) Set.univ (bodyAt1 a t) (fun _ => post1At V a c t) := by
  unfold pre1At post1At bodyAt1
  simp only [before1_0, before1_1, before1_2, before1_3, before1_4, before1_5]
  rw [show (dat1 V a c).Φ t.succ = (dat1 V a c).Φ t.castSucc from rfl,
    show (dat1 V a c).owesAt () t.succ = (dat1 V a c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold res1
  iapply (ffn_run c (grid1.coords t) Set.univ _ _ _ _ _ _ _ _ _ _ _ _ _ _ _ _ (blk1 V a c 0 t) (blk1 V a c 1 t) (blk1 V a c 2 t) (blk1 V a c 3 t) (blk1 V a c 4 t) (blk1 V a c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation. -/
theorem obligation1 (c : Dev nD) : BodyObligation (dat1 (F := F) V a c) (defs₀ (F := F)) Variants.none () Set.univ := fun t => by
  rw [bigSep_W1, bigSep_W1, row1]
  exact triple_restated (body1 V a c t) rfl .rfl fun _ => .rfl

end Cert.Proof

end
-- ==== Proof.Table.lean ====
/-
  The table the FFN call prefetches: what the host computes it to be from the running ends of the experts' row ranges,
  that every entry of it is at most eight, and that any such table is admissible.
-/
module

public import proofs.«01_k».proof.Proof.Router
public import Idealize.ShloMosaic.Lib.StableHlo.RunRead
public import Idealize.ShloMosaic.Lib.Routing.Ops
public import Idealize.ShloMosaic.Lib.Routing.Words
public import Idealize.ShloMosaic.Lib.Routing.OpsSearch
public import Idealize.ShloMosaic.Lib.Pointwise.SelectCore

@[expose] public section

set_option maxRecDepth 16384

noncomputable section

namespace Cert.Proof

open Cert.KernelIdeal Cert.KernelIdeal.Gen
open Idealize.ShloMosaic hiding ix0 ix1 ix2 ix3 eq_ix1
open Idealize.ShloMosaic.TcCoe Idealize.ShloMosaic.Routing Idealize.ShloMosaic.ValueIdx

variable {F : FTy → Type} [FloatOps F]

/-- The first row of each routed block, and whether it lies at or past the end of each expert's rows. -/
def blockPast (ends : IVec S8 32) : IVec S39x8 1 :=
  cmpi .sge
    (broadcastInDim S39x8 ![0, 1] bcast_S39x1_S39x8_0_1 (broadcastInDim S39x1 ![0] bcast_S39_S39x1_0
      (muli (iotaInDim S39 32 0) (broadcastInDim S39 ![] bcast_S_S39 (constantI S_ 32 128#32)))))
    (broadcastInDim S39x8 ![0, 1] bcast_S1x8_S39x8_0_1 (broadcastInDim S1x8 ![1] bcast_S8_S1x8_1 ends))

/-- The expert of each routed block: how many experts' rows end at or before its first row, at most seven. -/
def blockExpert (ends : IVec S8 32) : IVec S39 32 :=
  minsi (Host.reduce IntOp.addi (extui 32 (blockPast ends) natLt_1_32) (constantI S_ 32 0#32) reducesTo_S39x8_S39_d1 h_S_)
    (broadcastInDim S39 ![] bcast_S_S39 (constantI S_ 32 7#32))

/-- The prefetched table: sixteen blocks of the shared expert, then the routed blocks. -/
def tableOf (ends : IVec S8 32) : IVec S55 32 :=
  concatenate S55 0 [⟨S16, broadcastInDim S16 ![] bcast_S_S16 (constantI S_ 32 8#32)⟩, ⟨S39, blockExpert ends⟩] concatenates_S16_S39_S55_d0

/-- The last stretch before the call leaves the table in its buffer. -/
theorem table_read (W : Valuation τ sig (Elt F)) :
    StableHlo.after hostOps1_8 W main_v74 = tableOf (W main_v28) := by
  after_reads_simp
  rfl

/-- A routed block's expert, as the count of the experts whose rows it lies past. -/
theorem blockExpert_at (ends : IVec S8 32) (Q : ℕ → Prop) [DecidablePred Q] (i : Fin 39)
    (hQ : ∀ q : Fin 8, blockPast ends (ix2 i q) = 1#1 ↔ Q q.val) :
    blockExpert ends (ix1 i) = BitVec.ofNat 32 (min (Nat.count Q 8) 7) := by
  have h := reduce_count (by decide) (blockPast ends) natLt_1_32 reducesTo_S39x8_S39_d1 h_S_ i Q hQ
  have hle : Nat.count Q 8 ≤ 8 := Nat.count_le _
  have h7 : broadcastInDim S39 ![] bcast_S_S39 (constantI S_ 32 7#32) (ix1 i) = 7#32 := bc0 bcast_S_S39 _ _
  show IntOp.minsi (Host.reduce IntOp.addi _ _ reducesTo_S39x8_S39_d1 h_S_ (ix1 i)) (broadcastInDim S39 ![] bcast_S_S39 (constantI S_ 32 7#32) (ix1 i)) = _
  rw [h7]
  refine (congrArg (fun x => IntOp.minsi x 7#32) h).trans ?_
  generalize Nat.count Q 8 = n at hle ⊢
  interval_cases n <;> decide

/-- The table's first sixteen entries name the shared expert. -/
theorem table_shared (ends : IVec S8 32) (p : Fin 55) (hp : p.val < 16) : tableOf ends (ix1 p) = 8#32 := by
  unfold tableOf
  refine (concatenate_pair_apply (t := S55) (s₁ := S16) (s₂ := S39) 0 _ _ concatenates_S16_S39_S55_d0 _).trans ?_
  exact (dif_pos (show ((ix1 p : S55.Idx) 0).val < S16.size 0 from hp)).trans (bc0 bcast_S_S16 _ _)

/-- The others are the routed blocks'. -/
theorem table_routed (ends : IVec S8 32) (p : Fin 55) (b : Fin 39) (hp : p.val = b.val + 16) : tableOf ends (ix1 p) = blockExpert ends (ix1 b) := by
  unfold tableOf
  refine (concatenate_pair_apply (t := S55) (s₁ := S16) (s₂ := S39) 0 _ _ concatenates_S16_S39_S55_d0 _).trans ?_
  refine (dif_neg (show ¬((ix1 p : S55.Idx) 0).val < S16.size 0 from by show ¬p.val < 16; omega)).trans ?_
  refine congrArg (blockExpert ends) (funext fun a => ?_)
  obtain rfl : a = 0 := Subsingleton.elim _ _
  refine Fin.ext ?_
  show p.val - 16 = b.val
  omega

/-- Every entry of the table is at most eight. -/
theorem table_le (ends : IVec S8 32) (i : S55.Idx) : (tableOf ends i).toNat ≤ 8 := by
  obtain ⟨p, rfl⟩ : ∃ p : Fin 55, i = ix1 p := ⟨i 0, eq_ix1 i⟩
  by_cases hp : p.val < 16
  · rw [table_shared ends p hp]
    decide
  · have hlt := p.isLt
    rw [table_routed ends p ⟨p.val - 16, by omega⟩ (by show p.val = p.val - 16 + 16; omega)]
    classical
    rw [blockExpert_at ends (fun q => ∃ h : q < 8, blockPast ends (ix2 _ ⟨q, h⟩) = 1#1) _ fun q => ⟨fun h => ⟨q.isLt, h⟩, fun h => h.2⟩]
    rw [BitVec.toNat_ofNat]
    exact (Nat.mod_le _ _).trans ((Nat.min_le_right _ _).trans (by decide))

/-- A table with entries at most eight is admissible: every block it picks lies inside its weight array. -/
theorem ok1_of_le (pf : pre1.Contents (Elt F)) (h : ∀ i : S55.Idx, (show BitVec 32 from pf 0 i).toNat ≤ 8) : ok1 pf := by
  refine ⟨fun i => ?_, fun i => ?_, fun i => ?_⟩
  all_goals
    refine ⟨fun a => ?_, .inr (.inr ⟨by decide, rfl, rfl, rfl⟩)⟩
    match a with
    | ⟨0, _⟩ =>
      have := h ((Rect.unit (s := S55) ![(Scalar.indexCast (BitVec.ofNat 32 (i 0).val)).toNat] S1.size (k1_off1_inb i)).emb (Shape.Idx.first (numel1_S1.symm ▸ Nat.one_pos)))
      show (_ + 1) * 1 ≤ 9
      rw [Nat.mul_one]
      exact Nat.succ_le_succ this
    | ⟨1, _⟩ => exact (Nat.one_mul _).le
    | ⟨2, _⟩ => exact (Nat.one_mul _).le

end Cert.Proof
-- ==== Proof.Run.lean ====
/-
  The whole program's run: what each call leaves, the two region records over the thread state "every unscoped buffer held
  at a valuation, and nothing owed", and the run whose final memory holds the last valuation at the results.
-/
module

public import proofs.«01_k».proof.Proof.Ffn
public import proofs.«01_k».proof.Proof.Table
public import proofs.«01_k».proof.Proof.Gen.KernelIdeal.Regions

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RegionSeg)

variable {F : FTy → Type} [FloatOps F]

local notation "𝕄" => MT nD τ sig Unit (Elt F) ℕ UU ℕ

variable (m : (ℓ : Loc nD τ sig) → Buf (Elt F) ℓ)

/-! ## What the calls leave -/

/-- The buffers after the router call. -/
def W2 (c : Dev nD) : Valuation τ sig (Elt F) :=
  Function.update (Function.update (V1 m c) main_v10_0 ((dat0 (V1 m) c).arrAt 2 cfg0.N)) main_v10_1 ((dat0 (V1 m) c).arrAt 3 cfg0.N)

/-- What the router call leaves, as the generated valuations take it. -/
def outs0 : Outs (F := F) := fun _ r c => W2 m c r

/-- The table the FFN call prefetches. -/
def tbl : pre1.Contents (Elt F) := fun k => V11 m (outs0 m) 0 (Proc.devRef .tc (pre1.ref k))

theorem tbl_le (i : S55.Idx) : (show BitVec 32 from tbl m 0 i).toNat ≤ 8 := by
  have h := congrFun (table_read (V10 m (outs0 m) 0)) i
  exact (congrArg BitVec.toNat h).trans_le (table_le _ i)

/-- Both pipelines' tables: the first has none, the second the host's. -/
def adm : (p : Fin 2) → (pcfgs (F := F) p).Adm
  | ⟨0, _⟩ => cfg0.toPCfg_adm
  | ⟨1, _⟩ => ⟨tbl m, ok1_of_le (tbl m) (tbl_le m)⟩
  | ⟨_ + 2, h⟩ => absurd h (Nat.not_lt.2 (Nat.le_add_left _ _))

/-- The buffers after the FFN call. -/
def W12 (c : Dev nD) : Valuation τ sig (Elt F) :=
  Function.update (V11 m (outs0 m) c) main_v83 ((dat1 (V11 m (outs0 m)) (adm m 1) c).arrAt 6 (cfg1 (F := F) (adm m 1)).N)

/-- What the two calls leave. -/
def outs : Outs (F := F) := fun n r c => match n with
  | 12 => W12 m c r
  | _ => W2 m c r

theorem V2_outs (c : Dev nD) : V2 m (outs m) c = V2 m (outs0 m) c := rfl
theorem V11_outs (c : Dev nD) : V11 m (outs m) c = V11 m (outs0 m) c := rfl

/-- The proof data of both calls. -/
def pdats : (p : Fin 2) → (c : Dev nD) → Dat τ (Elt F) Unit ℕ UU ℕ (Pipeline.pin (pcfgs (F := F)) (adm m) p) c
  | ⟨0, _⟩ => dat0 (V1 m)
  | ⟨1, _⟩ => dat1 (V11 m (outs0 m)) (adm m 1)
  | ⟨_ + 2, h⟩ => absurd h (Nat.not_lt.2 (Nat.le_add_left _ _))

/-! ## The region records -/

theorem cut (p : Fin 2) : Pipeline.LevelCut (pcfgs (F := F)) (adm m) () L lv p (fun _ => 0) (fun _ => 0) :=
  ⟨fun _ _ _ => Finset.mem_singleton.2 rfl, fun _ _ _ => Nat.le_refl _, fun _ _ _ h => absurd h (Nat.lt_irrefl _)⟩

/-- The buffers the router call does not stage, held at their entry contents. -/
def rest0 (c : Dev nD) : sProp 𝕄 := StableHlo.held (c.tc : Thread nD τ) (Pipeline.ucRefs τ sig \ Pipeline.arrRefs spec0) (V1 m c)

theorem sel_ne_wgt : (Proc.devRef .tc main_v10_0 : DevRef τ sig) ≠ Proc.devRef .tc main_v10_1 := StableHlo.devRef_ne_of_ne (by decide)

/-- After the router call the chosen experts' array is what the call left. -/
theorem V2_sel (c : Dev nD) : V2 m (outs m) c main_v10_0 = (dat0 (V1 m) c).arrAt 2 cfg0.N := by
  rw [V2_outs]
  unfold V2 outs0 W2
  rw [Function.update_of_ne sel_ne_wgt, Function.update_self, Function.update_of_ne sel_ne_wgt, Function.update_self]

/-- After the router call the weights' array is what the call left. -/
theorem V2_wgt (c : Dev nD) : V2 m (outs m) c main_v10_1 = (dat0 (V1 m) c).arrAt 3 cfg0.N := by
  rw [V2_outs]
  unfold V2 outs0 W2
  rw [Function.update_self, Function.update_self]

theorem exit0 (c : Dev nD) (w : Fin 4) :
    (dat0 (V1 m) c).arrAt w cfg0.N = V2 m (outs m) c (Proc.devRef .tc (Pipeline.arrRef spec0 w)) :=
  match w with
  | ⟨0, _⟩ => (Pipeline.Dat.arrAt_in _ 0 rfl _).trans (V2_of m (outs m) c main_v0 (by decide)).symm
  | ⟨1, _⟩ => (Pipeline.Dat.arrAt_in _ 1 rfl _).trans (V2_of m (outs m) c main_arg1 (by decide)).symm
  | ⟨2, _⟩ => (V2_sel m c).symm
  | ⟨3, _⟩ => (V2_wgt m c).symm

theorem in0 (c : Dev nD) : iprop(Pipeline.scopedRest (τ := τ) (Ix := Unit) (Name := ℕ) (U := UU) (Lvl := ℕ) (Val := Elt F) spec0 c ∗ BI.emp) ⊢ Pipeline.scopedRest spec0 c := by
  iintro ⟨H, -⟩; iexact H
theorem out0 (c : Dev nD) : Pipeline.scopedRest (τ := τ) (Ix := Unit) (Name := ℕ) (U := UU) (Lvl := ℕ) (Val := Elt F) spec0 c ⊢ iprop(Pipeline.scopedRest (τ := τ) spec0 c ∗ BI.emp) := by
  iintro H; isplitl [H]; · iexact H
  iempintro

set_option backward.isDefEq.respectTransparency.types false in
/-- The router call's record. -/
def R0 : RegionSeg (pcfgs (F := F)) (adm m) (pdats m) () defs₀ Variants.none L lv 0 :=
  RegionSeg.ofHeld (pcfgs (F := F)) (adm m) (pdats m) () defs₀ Variants.none L lv 0 (fun _ => 0) (fun _ => iprop(emp)) (fun _ => iprop(emp)) launch0 rfl
    (fun c => (obligation0 (V1 m) c).loose) (fun _ _ => rfl) (fun _ => rfl) (fun c => (dat0 (V1 m) c).share_full fun _ => rfl)
    in0 out0 (fun _ => 0) (cut m 0) (rest0 m) (V1 m) (V2 m (outs m)) (fun _ _ => rfl) (exit0 m)

/-- The buffers the FFN call neither stages nor prefetches, held at their entry contents. -/
def rest1 (c : Dev nD) : sProp 𝕄 :=
  StableHlo.held (c.tc : Thread nD τ) ((Pipeline.ucRefs τ sig \ Pipeline.arrRefs spec1) \ Pipeline.tblRefs pre1) (V11 m (outs m) c)

/-- After the FFN call its result is what the call left. -/
theorem V12_ys (c : Dev nD) :
    V12 m (outs m) c main_v83 = (dat1 (V11 m (outs0 m)) (adm m 1) c).arrAt 6 (cfg1 (F := F) (adm m 1)).N := by
  unfold V12
  rw [Function.update_self]
  show W12 m c main_v83 = _
  unfold W12
  exact Function.update_self _ _ _

theorem keep1 (c : Dev nD) (r : Ref sig .tc) (h : r ∉ ([main_v83] : List (Ref sig .tc))) :
    V11 m (outs0 m) c (Proc.devRef .tc r) = V12 m (outs m) c (Proc.devRef .tc r) := (V12_of m (outs m) c r h).symm

theorem arr1_in (V : (c : Dev nD) → Valuation τ sig (Elt F)) (a : (pcfg1 (F := F)).Adm) (c : Dev nD) (w : Fin 7) (n : ℕ)
    (h : ((cfg1 a).win w).isOut = false) : (dat1 V a c).arrAt w n = V c (Pipeline.arrRef spec1 w) :=
  (Pipeline.Dat.arrAt_in (dat1 V a c) w h n).trans (A1 V a c w)

theorem exit1 (c : Dev nD) (w : Fin 7) :
    (dat1 (V11 m (outs0 m)) (adm m 1) c).arrAt w (cfg1 (F := F) (adm m 1)).N = V12 m (outs m) c (Proc.devRef .tc (Pipeline.arrRef spec1 w)) :=
  match w with
  | ⟨0, _⟩ => (arr1_in (V11 m (outs0 m)) (adm m 1) c 0 _ rfl).trans (keep1 m c (Pipeline.arrRef spec1 0) (by decide))
  | ⟨1, _⟩ => (arr1_in (V11 m (outs0 m)) (adm m 1) c 1 _ rfl).trans (keep1 m c (Pipeline.arrRef spec1 1) (by decide))
  | ⟨2, _⟩ => (arr1_in (V11 m (outs0 m)) (adm m 1) c 2 _ rfl).trans (keep1 m c (Pipeline.arrRef spec1 2) (by decide))
  | ⟨3, _⟩ => (arr1_in (V11 m (outs0 m)) (adm m 1) c 3 _ rfl).trans (keep1 m c (Pipeline.arrRef spec1 3) (by decide))
  | ⟨4, _⟩ => (arr1_in (V11 m (outs0 m)) (adm m 1) c 4 _ rfl).trans (keep1 m c (Pipeline.arrRef spec1 4) (by decide))
  | ⟨5, _⟩ => (arr1_in (V11 m (outs0 m)) (adm m 1) c 5 _ rfl).trans (keep1 m c (Pipeline.arrRef spec1 5) (by decide))
  | ⟨6, _⟩ => (V12_ys m c).symm

theorem tbl_entry (c : Dev nD) (k : Fin 1) : (adm m 1).1 k = V11 m (outs m) c (Proc.devRef .tc (pre1.ref k)) := by
  obtain rfl : c = 0 := Subsingleton.elim _ _
  rfl

theorem tbl_exit (c : Dev nD) (k : Fin 1) : (adm m 1).1 k = V12 m (outs m) c (Proc.devRef .tc (pre1.ref k)) := by
  refine (tbl_entry m c k).trans ?_
  obtain rfl : k = 0 := Subsingleton.elim _ _
  exact keep1 m c main_v74 (by decide)

theorem in1 (c : Dev nD) : iprop(iprop(Pipeline.scopedRest (τ := τ) (Ix := Unit) (Name := ℕ) (U := UU) (Lvl := ℕ) (Val := Elt F) spec1 c ∗ BI.emp)
    ∗ Pipeline.prefHeld pre1 c (fun _ => fullShare) (adm m 1).1)
    ⊢ iprop(Pipeline.scopedRest (τ := τ) spec1 c ∗ Pipeline.prefHeld pre1 c (fun _ => fullShare) (adm m 1).1) := by
  iintro ⟨⟨H, -⟩, Hp⟩
  isplitl [H] <;> iassumption
theorem out1 (c : Dev nD) : iprop(Pipeline.scopedRest (τ := τ) (Ix := Unit) (Name := ℕ) (U := UU) (Lvl := ℕ) (Val := Elt F) spec1 c
    ∗ Pipeline.prefHeld pre1 c (fun _ => fullShare) (adm m 1).1)
    ⊢ iprop(iprop(Pipeline.scopedRest (τ := τ) spec1 c ∗ BI.emp) ∗ Pipeline.prefHeld pre1 c (fun _ => fullShare) (adm m 1).1) := by
  iintro ⟨H, Hp⟩
  isplitl [H]
  · isplitl [H]; · iexact H
    iempintro
  iexact Hp

set_option backward.isDefEq.respectTransparency.types false in
/-- The FFN call's record. -/
def R1 : RegionSeg (pcfgs (F := F)) (adm m) (pdats m) () defs₀ Variants.none L lv 1 :=
  RegionSeg.ofHeldT (pcfgs (F := F)) (adm m) (pdats m) () defs₀ Variants.none L lv 1 (fun _ => 0) (fun _ => iprop(emp)) (fun _ => iprop(emp)) launch1
    (fun c => (obligation1 (V11 m (outs0 m)) (adm m 1) c).loose) (fun _ _ => rfl) (fun _ => rfl)
    (fun c => (dat1 (V11 m (outs0 m)) (adm m 1) c).share_full fun _ => rfl)
    (in1 m) (out1 m) (fun _ => 0) (cut m 1) (rest1 m) (V11 m (outs m)) (V12 m (outs m)) (fun _ _ => rfl) (tbl_entry m) (exit1 m) (tbl_exit m)

/-! ## The thread state around the calls -/

/-- The core owes nothing. -/
def idle (c : Dev nD) : sProp 𝕄 := iprop(∃ W, owes (c : Thread nD τ) (0 : CellTallies nD τ sig Unit) W)

theorem arr0_sub : Pipeline.arrRefs (τ := τ) spec0 ⊆ Pipeline.ucRefs τ sig :=
  Pipeline.arrRefs_sub_ucRefs spec0 winFacts0.arr_unscoped
theorem arr1_sub : Pipeline.arrRefs (τ := τ) spec1 ⊆ Pipeline.ucRefs τ sig :=
  Pipeline.arrRefs_sub_ucRefs spec1 winFacts1.arr_unscoped
theorem tbl1_sub : Pipeline.tblRefs (τ := τ) pre1 ⊆ Pipeline.ucRefs τ sig \ Pipeline.arrRefs spec1 :=
  Pipeline.tblRefs_sub_ucRefs_sdiff spec1 pre1 preFacts1.unscoped preFacts1.disj

theorem mem_arr {gr W : ℕ} (win : Fin W → Pipeline.WinSpec sig gr) (w : Fin W) :
    (Proc.devRef .tc (Pipeline.arrRef win w) : DevRef τ sig) ∈ Pipeline.arrRefs win :=
  Finset.mem_map.mpr ⟨_, Finset.mem_image.mpr ⟨w, Finset.mem_univ _, rfl⟩, rfl⟩

/-- The router call changes no buffer it does not stage. -/
theorem rest0_eq (c : Dev nD) : rest0 m c = StableHlo.held (c.tc : Thread nD τ) (Pipeline.ucRefs τ sig \ Pipeline.arrRefs spec0) (V2 m (outs m) c) := by
  refine StableHlo.held_congr _ fun b hb => ?_
  have hb' := (Finset.mem_sdiff.1 hb).2
  have h0 : b ≠ Proc.devRef .tc main_v10_0 := fun e => hb' (e ▸ mem_arr spec0 2)
  have h1 : b ≠ Proc.devRef .tc main_v10_1 := fun e => hb' (e ▸ mem_arr spec0 3)
  unfold V2
  rw [Function.update_of_ne h1, Function.update_of_ne h0]

/-- The FFN call changes no buffer it does not stage. -/
theorem rest1_eq (c : Dev nD) : rest1 m c
    = StableHlo.held (c.tc : Thread nD τ) ((Pipeline.ucRefs τ sig \ Pipeline.arrRefs spec1) \ Pipeline.tblRefs pre1) (V12 m (outs m) c) := by
  refine StableHlo.held_congr _ fun b hb => ?_
  have hb' := (Finset.mem_sdiff.1 (Finset.mem_sdiff.1 hb).1).2
  have h0 : b ≠ Proc.devRef .tc main_v83 := fun e => hb' (e ▸ mem_arr spec1 6)
  unfold V12
  rw [Function.update_of_ne h0]

theorem pre0 (c : Dev nD) : iprop(StableHlo.held (c : Thread nD τ) (Pipeline.ucRefs τ sig) (V1 m c) ∗ idle c) ⊢ (R0 m).pre c := by
  show _ ⊢ iprop(StableHlo.held (c.tc : Thread nD τ) (Pipeline.arrRefs spec0) (V1 m c) ∗ iprop(emp) ∗ rest0 m c ∗ idle c)
  unfold rest0
  rw [StableHlo.held_sub_split _ arr0_sub (V1 m c)]
  iintro ⟨⟨Ha, Hr⟩, Hi⟩
  isplitl [Ha]; · iexact Ha
  isplitr; · iempintro
  isplitl [Hr]; · iexact Hr
  iexact Hi
theorem post0 (c : Dev nD) : (R0 m).post c ⊢ iprop(StableHlo.held (c : Thread nD τ) (Pipeline.ucRefs τ sig) (V2 m (outs m) c) ∗ idle c) := by
  show iprop(StableHlo.held (c.tc : Thread nD τ) (Pipeline.arrRefs spec0) (V2 m (outs m) c) ∗ iprop(emp) ∗ rest0 m c ∗ idle c) ⊢ _
  rw [StableHlo.held_sub_split _ arr0_sub (V2 m (outs m) c), rest0_eq]
  iintro ⟨Ha, -, Hr, Hi⟩
  isplitl [Ha Hr]
  · isplitl [Ha] <;> iassumption
  iexact Hi
theorem pre1' (c : Dev nD) : iprop(StableHlo.held (c : Thread nD τ) (Pipeline.ucRefs τ sig) (V11 m (outs m) c) ∗ idle c) ⊢ (R1 m).pre c := by
  show _ ⊢ iprop(StableHlo.held (c.tc : Thread nD τ) (Pipeline.arrRefs spec1) (V11 m (outs m) c) ∗ StableHlo.held (c.tc : Thread nD τ) (Pipeline.tblRefs pre1) (V11 m (outs m) c)
    ∗ iprop(emp) ∗ rest1 m c ∗ idle c)
  unfold rest1
  rw [StableHlo.held_sub_split _ arr1_sub (V11 m (outs m) c), StableHlo.held_sub_split _ tbl1_sub (V11 m (outs m) c)]
  iintro ⟨⟨Ha, Ht, Hr⟩, Hi⟩
  isplitl [Ha]; · iexact Ha
  isplitl [Ht]; · iexact Ht
  isplitr; · iempintro
  isplitl [Hr]; · iexact Hr
  iexact Hi
theorem post1 (c : Dev nD) : (R1 m).post c ⊢ iprop(StableHlo.held (c : Thread nD τ) (Pipeline.ucRefs τ sig) (V12 m (outs m) c) ∗ idle c) := by
  show iprop(StableHlo.held (c.tc : Thread nD τ) (Pipeline.arrRefs spec1) (V12 m (outs m) c) ∗ StableHlo.held (c.tc : Thread nD τ) (Pipeline.tblRefs pre1) (V12 m (outs m) c)
    ∗ iprop(emp) ∗ rest1 m c ∗ idle c) ⊢ _
  rw [StableHlo.held_sub_split _ arr1_sub (V12 m (outs m) c), StableHlo.held_sub_split _ tbl1_sub (V12 m (outs m) c), rest1_eq]
  iintro ⟨Ha, Ht, -, Hr, Hi⟩
  isplitl [Ha Ht Hr]
  · isplitl [Ha]; · iexact Ha
    isplitl [Ht] <;> iassumption
  iexact Hi

/-! ## The run -/

set_option backward.isDefEq.respectTransparency.types false in
/-- Every weakly fair run of the program ends, with each result the last valuation's, each argument as it was and every
    semaphore counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v95) = V13 m (outs m) c main_v95
      ∧ r.2.mem ((c.tc : Thread nD τ).loc main_cst_23) = V13 m (outs m) c main_cst_23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_regions_kit_dev_sems (pcfgs (F := F)) (adm m) (pdats m) () (cellOf_inj (adm m)) emb₁ defs₀ Variants.none L lv m ρ main
    (segs m (outs m) Variants.none L lv (fun _ => idle) () (adm m) (pdats m) (R0 m) (R1 m))
    (fun c Q => by
      rewrite [main_chain c, Pipeline.Seg.run_eq_chain,
        show (segs m (outs m) Variants.none L lv (fun _ => idle) () (adm m) (pdats m) (R0 m) (R1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) 0 (fun g hg => if_neg hg)
    (G := fun _ => iprop(emp))
    (initOf (Pipeline.cells (Pipeline.pin (pcfgs (F := F)) (adm m)) (cellOf_inj (adm m))) (Pipeline.launchToks (Pipeline.pin (pcfgs (F := F)) (adm m)) (cellOf_inj (adm m))))
    (by
      iintro Hu; imodintro
      isplitl [Hu]
      · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idle c))
    (Tₙ := fun c => StableHlo.held (c : Thread nD τ) (Pipeline.ucRefs τ sig) (V13 m (outs m) c))
    (hch := fun c => ⟨.rfl, pre0 m c, post0 m c, .rfl, .rfl, .rfl, .rfl, .rfl, .rfl, .rfl, .rfl, pre1' m c, post1 m c, .rfl⟩)
    (hinit := ?_) (QY := fun c s => s.mem ((c.tc : Thread nD τ).loc main_v95) = V13 m (outs m) c main_v95
      ∧ s.mem ((c.tc : Thread nD τ).loc main_cst_23) = V13 m (outs m) c main_cst_23
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · refine Pipeline.initEach L lv fun c => ?_
    rw [← Pipeline.unscopedBufs_held (Ix := Unit) (Name := ℕ) (U := UU) (Lvl := ℕ) c (V0 m c)]
    iintro ⟨⟨Hb, -, Ho, -⟩, -⟩
    imodintro
    isplitl [Hb]; · iexact Hb
    unfold idle
    iexists ∅; iexact Ho
  · unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v95) (Finset.mem_filter.mpr ⟨StableHlo.devRef_mem_tcRefs main_v95, by decide⟩),
        h (Proc.devRef .tc main_cst_23) (Finset.mem_filter.mpr ⟨StableHlo.devRef_mem_tcRefs main_cst_23, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c)⟩
    · iexact HSI

end Cert.Proof
-- ==== Proof.Frames.lean ====
/-
  The three programs run to the end with their arguments unchanged and every semaphore at zero.
-/
module

public import proofs.«01_k».proof.Defs
public import proofs.«01_k».proof.Proof.Run
public import proofs.«01_k».proof.Proof.K.Run
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

/-- The kernel as printed, at the word instance. -/
theorem frame_kernel : Cert.quiescent_Kernel := fun m g _ =>
  (θ_run _ _ _).mono (fun _ h => ⟨fun c => (h.1 c).2.2, h.2⟩) (Cert.ProofK.run_main m g)

/-- The kernel over the extended reals. -/
theorem frame_kernelIdeal : Cert.quiescent_KernelIdeal := fun m g _ =>
  (θ_run _ _ _).mono (fun _ h => ⟨fun c => (h.1 c).2.2, h.2⟩) (Cert.Proof.run_main m g)

/-- The reference over the extended reals: it declares no semaphore. -/
theorem frame_referenceIdeal : Cert.quiescent_ReferenceIdeal := fun m g _ =>
  (θ_run _ _ _).mono (fun r h => ⟨fun c => (h c).2.2, sem_eq_zero_of_no_sems (by decide) r.2⟩)
    (Cert.ReferenceIdeal.Value.run m g)

end Cert.Proof

end
-- ==== Proof.Sum.lean ====
/-
  The sum over the rows of a token, the sum over its slots and the sum over the experts are one sum.
-/
module

public import Mathlib.Data.EReal.Operations
public import Mathlib.Algebra.BigOperators.Fin

@[expose] public section

noncomputable section

namespace Cert.Proof

/-- A sum over rows, each zero unless it is the row of one of two slots. -/
theorem sum_two_rows {N : ℕ} (f : Fin N → EReal) (r₀ r₁ : Fin N) (h : r₀ ≠ r₁) (hf : ∀ r, r ≠ r₀ → r ≠ r₁ → f r = 0) :
    ∑ r : Fin N, f r = f r₀ + f r₁ := by
  rw [← Finset.sum_pair h]
  refine (Finset.sum_subset (Finset.subset_univ _) fun r _ hr => ?_).symm
  rw [Finset.mem_insert, Finset.mem_singleton, not_or] at hr
  exact hf r hr.1 hr.2

/-- A sum over the experts, each term times the weights of the slots that chose it, is the sum over the two slots. -/
theorem sum_experts (y : Fin 8 → EReal) (a b : Fin 8) (h : b ≠ a) (w : Fin 2 → EReal) :
    ∑ e : Fin 8, y e * (∑ k : Fin 2, if BitVec.ofNat 32 (if k = 0 then a else b).val = BitVec.ofNat 32 e.val then w k else 0) = y a * w 0 + y b * w 1 := by
  have hw : ∀ i e : Fin 8, BitVec.ofNat 32 i.val = BitVec.ofNat 32 e.val ↔ i = e := fun i e => by
    constructor
    · intro he
      have := congrArg BitVec.toNat he
      rw [BitVec.toNat_ofNat, BitVec.toNat_ofNat, Nat.mod_eq_of_lt (by omega), Nat.mod_eq_of_lt (by omega)] at this
      exact Fin.ext this
    · rintro rfl
      rfl
  have h0 : ∀ e : Fin 8, (∑ k : Fin 2, if BitVec.ofNat 32 (if k = 0 then a else b).val = BitVec.ofNat 32 e.val then w k else 0)
      = (if a = e then w 0 else 0) + (if b = e then w 1 else 0) := fun e => by
    rw [Fin.sum_univ_two]
    simp only [hw]
    rfl
  simp only [h0]
  rw [sum_two_rows _ a b h.symm fun e ha hb => by rw [if_neg ha.symm, if_neg hb.symm, add_zero, mul_zero]]
  rw [if_pos rfl, if_pos rfl, if_neg h, if_neg h.symm, add_zero, zero_add]

/-- A finite sum of products of real numbers is a real number. -/
theorem real_sum {ι : Type} [Fintype ι] (f g : ι → EReal) (hf : ∀ i, ∃ r : ℝ, f i = (r : EReal)) (hg : ∀ i, ∃ r : ℝ, g i = (r : EReal)) :
    ∃ r : ℝ, ∑ i, f i * g i = (r : EReal) := by
  refine Finset.sum_induction _ (fun x : EReal => ∃ r : ℝ, x = (r : EReal)) ?_ ⟨0, rfl⟩ fun i _ => ?_
  · rintro _ _ ⟨p, rfl⟩ ⟨q, rfl⟩
    exact ⟨p + q, (EReal.coe_add p q).symm⟩
  · obtain ⟨p, hp⟩ := hf i
    obtain ⟨q, hq⟩ := hg i
    exact ⟨p * q, by rw [hp, hq, EReal.coe_mul]⟩

/-- An extended real that is neither infinity is a real number. -/
theorem real_of_ne {x : EReal} (h : ¬ (x = ⊤ ∨ x = ⊥)) : ∃ r : ℝ, x = (r : EReal) := by
  rw [not_or] at h
  exact ⟨x.toReal, (EReal.coe_toReal h.1 h.2).symm⟩

end Cert.Proof

end
-- ==== Proof.Pre.lean ====
/-
  What the precondition says: every hidden state and every router weight is a real number.
-/
module

public import proofs.«01_k».proof.Pre_router_finite
public import proofs.«01_k».proof.Proof.Gen.Pre_router_finite
public import proofs.«01_k».proof.Proof.Sum
public import Idealize.ShloMosaic.Lib.ReduceAll
public import Idealize.ShloMosaic.Lib.Pointwise

@[expose] public section

set_option maxRecDepth 16384

noncomputable section

namespace Cert.Proof

open Cert.Pre_router_finite Cert.Pre_router_finite.Gen Cert.Pre_router_finite.Facts
open Idealize.ShloMosaic Idealize.ShloMosaic.TcCoe

/-- The pattern of plus infinity denotes the greatest extended real. -/
theorem ofBits_top : Ideal.ofBits .f32 0x7F800000#32 = (⊤ : EReal) := by
  simp [Ideal.ofBits, Ideal.ieee]

theorem ofBool_one : ∀ {b : Bool}, BitVec.ofBool b = 1#1 → b = true := by decide

/-- A number whose absolute value is below plus infinity is a real number. -/
theorem real_of_abs {x : EReal} (h : FloatOps.cmpf (F := Ideal) (φ := .f32) .olt (FloatOps.absf (F := Ideal) (φ := .f32) x) (Ideal.ofBits .f32 0x7F800000#32) = 1#1) :
    ∃ r : ℝ, x = (r : EReal) := by
  rw [ofBits_top] at h
  have h1 : max x (-x) < ⊤ := of_decide_eq_true (ofBool_one h)
  refine real_of_ne ?_
  rintro (rfl | rfl)
  · exact absurd ((le_max_left _ _).trans_lt h1) (lt_irrefl _)
  · exact absurd ((le_max_right _ _).trans_lt h1) (by rw [EReal.neg_bot]; exact lt_irrefl _)

variable (x : FVec Ideal S1x2048x1024 .f32) (w : FVec Ideal S8x1024 .f32)
  (g u : FVec Ideal S8x2048x1024 .f32) (d : FVec Ideal S8x1024x2048 .f32) (sg su : FVec Ideal S2048x1024 .f32) (sd : FVec Ideal S1024x2048 .f32)

theorem pre_parts (h : ∀ i, fn (F := Ideal) x w g u d sg su sd i = 1#1) :
    (∀ i, ∃ r : ℝ, x i = (r : EReal)) ∧ ∀ i, ∃ r : ℝ, w i = (r : EReal) := by
  have h0 := h (fun a => a.elim0)
  obtain ⟨h1, h2⟩ := IntOp.andi_eq_one.1 h0
  exact ⟨fun i => real_of_abs (Host.reduce_andi_all _ _ _ _ _ h1 i), fun i => real_of_abs (Host.reduce_andi_all _ _ _ _ _ h2 i)⟩

end Cert.Proof

end
-- ==== Proof.Math.lean ====
/-
  The mathematics both programs compute, over the extended reals: one token's feed-forward block.
-/
module

public import Idealize.ShloMosaic.PureOps.Ideal

@[expose] public section

noncomputable section

namespace Cert.Proof

open Idealize.ShloMosaic

/-- `z` times its logistic. -/
def silu (z : EReal) : EReal := z * Ideal.div 1 (1 + Ideal.exp (-z))

/-- One token's feed-forward block: the row `x` through the gate and the up matrices, `silu` of the one times the other, and
    the down matrix's row `n`. -/
def swiglu (x : Fin 1024 → EReal) (G U : Fin 2048 → Fin 1024 → EReal) (D : Fin 2048 → EReal) : EReal :=
  ∑ j : Fin 2048, silu (∑ k : Fin 1024, x k * G j k) * (∑ k : Fin 1024, x k * U j k) * D j

theorem swiglu_congr {x x' : Fin 1024 → EReal} {G G' U U' : Fin 2048 → Fin 1024 → EReal} {D D' : Fin 2048 → EReal} (hx : ∀ k, x k = x' k)
    (hG : ∀ j k, G j k = G' j k) (hU : ∀ j k, U j k = U' j k) (hD : ∀ j, D j = D' j) : swiglu x G U D = swiglu x' G' U' D' := by
  rw [funext hx, funext fun j => funext (hG j), funext fun j => funext (hU j), funext hD]

/-- The router's score of an expert for a token. -/
def score (x : Fin 1024 → EReal) (R : Fin 8 → Fin 1024 → EReal) (e : Fin 8) : EReal := ∑ k : Fin 1024, x k * R e k

/-- The pattern of minus infinity denotes the least extended real. -/
theorem ofBits_bot : Ideal.ofBits .f32 0xFF800000#32 = (⊥ : EReal) := by
  simp [Ideal.ofBits, Ideal.ieee]

/-- The weights of a token's two choices, from their scores. -/
def weightOf (p q : EReal) (k : Fin 2) : EReal :=
  if k = 0 then Ideal.div 1 (1 + Ideal.exp (q - p)) else Ideal.div (Ideal.exp (q - p)) (1 + Ideal.exp (q - p))

end Cert.Proof

end
-- ==== Proof.Select.lean ====
/-
  The two greatest of eight scores, the earlier index first where two are equal: what "the first" and "the second" choice
  mean, that each is one index, that a maximum and the least index reaching it find it, and that a stable sort does too.
-/
module

public import Idealize.ShloMosaic.PureOps.Ideal
public import Idealize.ShloMosaic.Lib.SortFacts
public import Idealize.ShloMosaic.Lib.Pointwise

@[expose] public section

noncomputable section

namespace Cert.Proof

open Idealize.ShloMosaic

/-- Position `i` goes before position `j`: its score is greater, or equal and it is the earlier. -/
def Beats {n : ℕ} (l : Fin n → EReal) (i j : Fin n) : Prop := l j < l i ∨ (l i = l j ∧ i < j)

theorem beats_total {n : ℕ} (l : Fin n → EReal) {i j : Fin n} (h : ¬ Beats l i j) (h' : ¬ Beats l j i) : i = j := by
  unfold Beats at h h'
  push Not at h h'
  have e : l i = l j := le_antisymm h.1 h'.1
  exact le_antisymm (h'.2 e.symm) (h.2 e)

/-- `a` is the first choice. -/
def IsFirst {n : ℕ} (l : Fin n → EReal) (a : Fin n) : Prop := ∀ e, ¬ Beats l e a

/-- `b` is the second choice after `a`. -/
def IsSecond {n : ℕ} (l : Fin n → EReal) (a b : Fin n) : Prop := b ≠ a ∧ ∀ e, e ≠ a → ¬ Beats l e b

theorem IsFirst.unique {n : ℕ} {l : Fin n → EReal} {a a' : Fin n} (h : IsFirst l a) (h' : IsFirst l a') : a = a' :=
  beats_total l (h' a) (h a')

theorem IsSecond.unique {n : ℕ} {l : Fin n → EReal} {a b b' : Fin n} (h : IsSecond l a b) (h' : IsSecond l a b') : b = b' :=
  beats_total l (h'.2 b h.1) (h.2 b' h'.1)

/-- The first choice has the greatest score. -/
theorem IsFirst.le {n : ℕ} {l : Fin n → EReal} {a : Fin n} (h : IsFirst l a) (e : Fin n) : l e ≤ l a :=
  not_lt.mp fun hlt => h e (Or.inl hlt)

/-- A later position with the greatest score is the first choice or after it. -/
theorem IsFirst.le_of_eq {n : ℕ} {l : Fin n → EReal} {a : Fin n} (h : IsFirst l a) {e : Fin n} (he : l e = l a) : a ≤ e :=
  not_lt.mp fun hlt => h e (Or.inr ⟨he, hlt⟩)

/-- The scores with the first choice struck out. -/
def struck {n : ℕ} (l : Fin n → EReal) (a : Fin n) : Fin n → EReal := fun e => if e = a then ⊥ else l e

/-- The second choice is the first one of the struck scores, none of the scores being `⊥`. -/
theorem IsSecond.struck {n : ℕ} {l : Fin n → EReal} {a b : Fin n} (hl : ∀ e, l e ≠ ⊥) (h : IsSecond l a b) :
    IsFirst (struck l a) b := by
  intro e
  have hb : Cert.Proof.struck l a b = l b := if_neg h.1
  by_cases he : e = a
  · subst he
    have ha : Cert.Proof.struck l e e = ⊥ := if_pos rfl
    unfold Beats
    rw [ha, hb]
    rintro (hlt | ⟨heq, -⟩)
    · exact not_lt_bot hlt
    · exact hl b heq.symm
  · have ha : Cert.Proof.struck l a e = l e := if_neg he
    have := h.2 e he
    unfold Beats at this ⊢
    rwa [ha, hb]

/-- The maximum from `⊥` is the first choice's score. -/
theorem fold_max_first {n : ℕ} (l : Fin n → EReal) (a : Fin n) (h : IsFirst l a) :
    Finset.univ.fold max (⊥ : EReal) l = l a :=
  le_antisymm ((Finset.fold_max_le _).mpr ⟨bot_le, fun e _ => h.le e⟩)
    (Finset.le_fold_max _ |>.mpr (Or.inr ⟨a, Finset.mem_univ a, le_rfl⟩))

/-- The least index whose score is the first choice's is the first choice. -/
theorem fold_min_first (l : Fin 8 → EReal) (a : Fin 8) (h : IsFirst l a) :
    Finset.univ.fold IntOp.minsi (2147483647#32) (fun e : Fin 8 => if l e = l a then BitVec.ofNat 32 e.val else 8#32)
      = BitVec.ofNat 32 a.val := by
  apply BitVec.eq_of_toInt_eq
  have hom : ∀ x y : BitVec 32, (IntOp.minsi x y).toInt = min x.toInt y.toInt := by
    intro x y
    unfold IntOp.minsi
    split
    · rename_i h
      exact (min_eq_left (BitVec.slt_iff_toInt_lt.mp h).le).symm
    · rename_i h
      exact (min_eq_right (not_lt.mp fun h' => h (BitVec.slt_iff_toInt_lt.mpr h'))).symm
  have hv : ∀ n : ℕ, n ≤ 8 → (BitVec.ofNat 32 n).toInt = n := by
    intro n hn
    interval_cases n <;> rfl
  rw [← Finset.fold_hom (op' := (min : ℤ → ℤ → ℤ)) (m := BitVec.toInt) hom]
  apply le_antisymm
  · refine (Finset.fold_min_le _).mpr (Or.inr ⟨a, Finset.mem_univ a, ?_⟩)
    rw [if_pos rfl]
  · refine (Finset.le_fold_min _).mpr ⟨?_, fun e _ => ?_⟩
    · rw [hv a.val (by omega)]
      have := a.isLt
      show ((a.val : ℕ) : ℤ) ≤ 2147483647
      omega
    · rw [hv a.val (by omega)]
      by_cases he : l e = l a
      · rw [if_pos he, hv e.val (by omega)]
        have := h.le_of_eq he
        omega
      · rw [if_neg he]
        have := a.isLt
        show ((a.val : ℕ) : ℤ) ≤ 8
        omega

/-- The order of a stable descending sort of the positions: by score alone, or with the position settling ties. -/
theorem stableSort_ties {n : ℕ} (R R' : Fin n → Fin n → Bool) (hR : ∀ i j, j < i → R i j = R' i j) (L : List (Fin n))
    (hL : L.Pairwise (· < ·)) : stableSort R L = stableSort R' L := by
  induction L with
  | nil => rfl
  | cons a L ih =>
    rw [List.pairwise_cons] at hL
    unfold stableSort
    rw [ih hL.2]
    refine insertBefore_congr R R' a _ fun b hb => hR b a ?_
    exact hL.1 b ((perm_stableSort R' L).mem_iff.mp hb)

open Classical in
/-- The sort's first two positions are the first and the second choice. -/
theorem sort_first_second {n : ℕ} (l : Fin (n + 2) → EReal) (R : Fin (n + 2) → Fin (n + 2) → Bool) (hR : ∀ i j, R i j = decide (l j < l i)) :
    IsFirst l (sortedFrom R 0) ∧ IsSecond l (sortedFrom R 0) (sortedFrom R 1) := by
  set R' : Fin (n + 2) → Fin (n + 2) → Bool := fun i j => decide (Beats l i j) with hR'
  have hs : sortPositions (n + 2) R = sortPositions (n + 2) R' := by
    refine stableSort_ties R R' (fun i j hij => ?_) _ (List.pairwise_lt_finRange _)
    rw [hR, hR']
    refine decide_eq_decide.mpr ⟨Or.inl, ?_⟩
    rintro (h | ⟨-, h⟩)
    · exact h
    · exact absurd h (not_lt.mpr hij.le)
  have hf : sortedFrom R = sortedFrom R' := by
    funext k
    unfold sortedFrom
    exact List.get_of_eq hs _
  have asym : ∀ i j, R' i j = true → R' j i = false := by
    intro i j h
    simp only [hR', decide_eq_true_eq, decide_eq_false_iff_not] at h ⊢
    unfold Beats at h ⊢
    rcases h with h | ⟨h, h2⟩
    · rintro (h' | ⟨h', -⟩)
      · exact lt_asymm h h'
      · exact h.ne h'
    · rintro (h' | ⟨-, h'⟩)
      · exact h'.ne h
      · exact lt_asymm h2 h'
  have ntr : ∀ i j k, R' i j = false → R' j k = false → R' i k = false := by
    intro i j k h h'
    simp only [hR', decide_eq_false_iff_not] at h h' ⊢
    unfold Beats at h h' ⊢
    push Not at h h' ⊢
    refine ⟨h.1.trans h'.1, fun e => ?_⟩
    have e1 : l i = l j := le_antisymm h.1 (e ▸ h'.1)
    exact (h'.2 (e1.symm.trans e)).trans (h.2 e1)
  have hno := sortedFrom_noInversion R' R' asym (fun _ _ h => h) ntr
  have hsur := sortedFrom_surjective R'
  have hinj := sortedFrom_injective R'
  rw [hf]
  refine ⟨fun e => ?_, fun h => ?_, fun e he => ?_⟩
  · obtain ⟨k, rfl⟩ := hsur e
    rcases eq_or_ne k 0 with rfl | hk
    · unfold Beats; simp
    · exact of_decide_eq_false (hno 0 k (Fin.pos_of_ne_zero hk))
  · exact absurd (hinj h) (by simp)
  · obtain ⟨k, rfl⟩ := hsur e
    rcases eq_or_ne k 1 with rfl | hk
    · unfold Beats; simp
    · have hk0 : k ≠ 0 := fun h => he (by rw [h])
      refine of_decide_eq_false (hno 1 k ?_)
      have h0 : k.val ≠ 0 := fun h => hk0 (Fin.ext h)
      have h1 : k.val ≠ 1 := fun h => hk (Fin.ext h)
      exact Fin.lt_def.mpr (by show 1 < k.val; omega)

/-- There is a first and a second choice among eight. -/
theorem exists_choices (l : Fin 8 → EReal) : ∃ a b, IsFirst l a ∧ IsSecond l a b :=
  ⟨_, _, sort_first_second (n := 6) l (fun i j => @decide (l j < l i) (Classical.dec _)) (fun _ _ => by congr)⟩

end Cert.Proof

end
-- ==== Proof.Answer.lean ====
/-
  The layer's result, entry by entry: what both programs are shown to compute.
-/
module

public import proofs.«01_k».proof.Proof.Math
public import proofs.«01_k».proof.Proof.Select
public import proofs.«01_k».proof.Proof.Sum
public import proofs.«01_k».proof.Proof.Gen.ReferenceIdeal

@[expose] public section

noncomputable section

namespace Cert.Proof

open Cert.ReferenceIdeal
open Idealize.ShloMosaic Idealize.ShloMosaic.TcCoe

variable (x : FVec Ideal S1x2048x1024 .f32) (w : FVec Ideal S8x1024 .f32) (G U : FVec Ideal S8x2048x1024 .f32) (D : FVec Ideal S8x1024x2048 .f32)
  (SG SU : FVec Ideal S2048x1024 .f32) (SD : FVec Ideal S1024x2048 .f32)

/-- A token's score of an expert. -/
def scoreAt (t : Fin 2048) (e : Fin 8) : EReal := score (fun k => x (ix3 0 t k)) (fun e k => w (ix2 e k)) e

/-- Expert `e`'s feed-forward block of a token. -/
def expertAt (t : Fin 2048) (n : Fin 1024) (e : Fin 8) : EReal :=
  swiglu (fun k => x (ix3 0 t k)) (fun j k => G (ix3 e j k)) (fun j k => U (ix3 e j k)) (fun j => D (ix3 e n j))

/-- The shared expert's. -/
def sharedAt (t : Fin 2048) (n : Fin 1024) : EReal :=
  swiglu (fun k => x (ix3 0 t k)) (fun j k => SG (ix2 j k)) (fun j k => SU (ix2 j k)) (fun j => SD (ix2 n j))

/-- The result of a token whose choices are `a` and `b`. -/
def answerAt (a b : Fin 8) (t : Fin 2048) (n : Fin 1024) : EReal :=
  sharedAt x SG SU SD t n + (expertAt x G U D t n a * weightOf (scoreAt x w t a) (scoreAt x w t b) 0
    + expertAt x G U D t n b * weightOf (scoreAt x w t a) (scoreAt x w t b) 1)

/-- Of real hidden states and router weights the scores are real. -/
theorem scoreAt_real (hx : ∀ i, ∃ r : ℝ, x i = (r : EReal)) (hw : ∀ i, ∃ r : ℝ, w i = (r : EReal)) (t : Fin 2048) (e : Fin 8) :
    ∃ r : ℝ, scoreAt x w t e = (r : EReal) :=
  real_sum _ _ (fun k => hx (ix3 0 t k)) fun k => hw (ix2 e k)

end Cert.Proof

end
-- ==== Proof.RefValue.lean ====
/-
  What the reference's composed term is at a token and a column: each expert's feed-forward block times the token's weight
  for that expert, summed over the experts, and the shared block.
-/
module

public import proofs.«01_k».proof.Proof.Math
public import proofs.«01_k».proof.Proof.Gen.ReferenceIdeal.Run
public import Idealize.ShloMosaic.Lib.Pointwise

@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.StableHlo Idealize.SL.Sem

/-- The feed-forward block of every token, as the reference writes it: matrices transposed, then multiplied. -/
def blockTerm (x : FVec Ideal S2048x1024 .f32) (G U : FVec Ideal S2048x1024 .f32) (D : FVec Ideal S1024x2048 .f32) :
    FVec Ideal S2048x1024 .f32 :=
  let g : FVec Ideal S2048x2048 .f32 := Host.dotGeneral dot_S2048x1024_S1024x2048_S2048x2048_1_0_0_1_n_n none x (transpose S1024x2048 [1, 0] G transposes_S2048x1024_S1024x2048_1_0)
  Host.dotGeneral dot_S2048x2048_S2048x1024_S2048x1024_1_0_0_1_n_n none
    (mulf (mulf g (Host.divf (broadcastInDim S2048x2048 ![] bcast_S_S2048x2048 (constant S_ .f32 0x3F800000#32)) (addf (broadcastInDim S2048x2048 ![] bcast_S_S2048x2048 (constant S_ .f32 0x3F800000#32)) (Host.exp (Host.negf g)))))
      (Host.dotGeneral dot_S2048x1024_S1024x2048_S2048x2048_1_0_0_1_n_n none x (transpose S1024x2048 [1, 0] U transposes_S2048x1024_S1024x2048_1_0)))
    (transpose S2048x1024 [1, 0] D transposes_S1024x2048_S2048x1024_1_0)

/-- It is `swiglu` of the token's row. -/
theorem blockTerm_at (x : FVec Ideal S2048x1024 .f32) (G U : FVec Ideal S2048x1024 .f32) (D : FVec Ideal S1024x2048 .f32)
    (t : Fin 2048) (n : Fin 1024) :
    blockTerm x G U D (ix2 t n) = swiglu (fun k => x (ix2 t k)) (fun j k => G (ix2 j k)) (fun j k => U (ix2 j k)) (fun j => D (ix2 n j)) := by
  pointwise [blockTerm]
  unfold swiglu silu
  rfl

/-- The token's weight for expert `e`: its two weights, each where the choice is `e`. -/
def weightTerm (sel : IVec S2048x2 32) (rw : FVec Ideal S2048x2 .f32) (e : BitVec 32) : FVec Ideal S2048x1024 .f32 :=
  broadcastInDim S2048x1024 ![0, 1] bcast_S2048x1_S2048x1024_0_1 (broadcastInDim S2048x1 ![0] bcast_S2048_S2048x1_0
    (Host.reduceAdd (mulf rw (uitofp .f32 (cmpi .eq sel (broadcastInDim S2048x2 ![] bcast_S_S2048x2 (constantI S_ 32 e)))))
      (constant S_ .f32 0x00000000#32) reducesTo_S2048x2_S2048_d1 h_S_))

theorem weightTerm_at (sel : IVec S2048x2 32) (rw : FVec Ideal S2048x2 .f32) (e : BitVec 32) (t : Fin 2048) (n : Fin 1024) :
    weightTerm sel rw e (ix2 t n) = ∑ k : Fin 2, if sel (ix2 t k) = e then rw (ix2 t k) else 0 := by
  pointwise [weightTerm]
  refine Finset.sum_congr rfl fun k _ => ?_
  by_cases h : sel (ix2 t k) = e
  · rw [if_pos h]
    have h1 : (FloatOps.uitofp (F := Ideal) .f32 (IntOp.cmpi CmpIPredicate.eq (sel (ix2 t k)) e) : EReal) = 1 := by
      rw [h]
      show (((IntOp.cmpi CmpIPredicate.eq e e).toNat : ℝ) : EReal) = 1
      simp [IntOp.cmpi]
    exact (congrArg (rw (ix2 t k) * ·) h1).trans (mul_one _)
  · rw [if_neg h]
    have h1 : (FloatOps.uitofp (F := Ideal) .f32 (IntOp.cmpi CmpIPredicate.eq (sel (ix2 t k)) e) : EReal) = 0 := by
      show (((IntOp.cmpi CmpIPredicate.eq (sel (ix2 t k)) e).toNat : ℝ) : EReal) = 0
      simp [IntOp.cmpi, h]
    exact (congrArg (rw (ix2 t k) * ·) h1).trans (mul_zero _)

/-- An expert's three matrices cut from the stack. -/
def gateTerm (W : FVec Ideal S8x2048x1024 .f32) (e : ℕ) (h : S8x2048x1024.Slices ![e, 0, 0] S1x2048x1024) : FVec Ideal S2048x1024 .f32 :=
  shapeCast _ (extractStridedSlice S1x2048x1024 ![e, 0, 0] W h) shapeCasts_S1x2048x1024_S2048x1024

def downTerm (W : FVec Ideal S8x1024x2048 .f32) (e : ℕ) (h : S8x1024x2048.Slices ![e, 0, 0] S1x1024x2048) : FVec Ideal S1024x2048 .f32 :=
  shapeCast _ (extractStridedSlice S1x1024x2048 ![e, 0, 0] W h) shapeCasts_S1x1024x2048_S1024x2048

theorem gateTerm_at (W : FVec Ideal S8x2048x1024 .f32) (e : Fin 8) (h) (j : Fin 2048) (k : Fin 1024) :
    gateTerm W e.val h (ix2 j k) = W (ix3 e j k) := by
  pointwise [gateTerm]

theorem downTerm_at (W : FVec Ideal S8x1024x2048 .f32) (e : Fin 8) (h) (j : Fin 1024) (k : Fin 2048) :
    downTerm W e.val h (ix2 j k) = W (ix3 e j k) := by
  pointwise [downTerm]

/-- One expert's share of every token's result. -/
abbrev share (x : FVec Ideal S2048x1024 .f32) (G U : FVec Ideal S8x2048x1024 .f32) (D : FVec Ideal S8x1024x2048 .f32)
    (sel : IVec S2048x2 32) (rw : FVec Ideal S2048x2 .f32) (e : ℕ) (hg : S8x2048x1024.Slices ![e, 0, 0] S1x2048x1024)
    (hd : S8x1024x2048.Slices ![e, 0, 0] S1x1024x2048) : FVec Ideal S2048x1024 .f32 :=
  mulf (blockTerm x (gateTerm G e hg) (gateTerm U e hg) (downTerm D e hd)) (weightTerm sel rw (BitVec.ofNat 32 e))

/-- One expert's share of a token's result. -/
theorem share_at (x : FVec Ideal S2048x1024 .f32) (G U : FVec Ideal S8x2048x1024 .f32) (D : FVec Ideal S8x1024x2048 .f32)
    (sel : IVec S2048x2 32) (rw : FVec Ideal S2048x2 .f32) (e : Fin 8) (hg hd) (t : Fin 2048) (n : Fin 1024) :
    share x G U D sel rw e.val hg hd (ix2 t n)
      = swiglu (fun k => x (ix2 t k)) (fun j k => G (ix3 e j k)) (fun j k => U (ix3 e j k)) (fun j => D (ix3 e n j))
        * ∑ k : Fin 2, if sel (ix2 t k) = BitVec.ofNat 32 e.val then rw (ix2 t k) else 0 := by
  refine congrArg₂ (fun a b : EReal => a * b) ((blockTerm_at _ _ _ _ t n).trans ?_) (weightTerm_at _ _ _ t n)
  simp only [gateTerm_at, downTerm_at]

/-- A sum read at an index, from its two parts there. -/
theorem add_share {a b : FVec Ideal S2048x1024 .f32} {i : S2048x1024.Idx} {p q : EReal} (ha : a i = p) (hb : b i = q) :
    addf a b i = p + q := congrArg₂ (fun a b : EReal => a + b) ha hb

/-- The first share is added to an array of zeros. -/
theorem zero_share {b : FVec Ideal S2048x1024 .f32} {i : S2048x1024.Idx} {q : EReal} (hb : b i = q) :
    addf (broadcastInDim S2048x1024 ![] bcast_S_S2048x1024 (constant S_ .f32 0x00000000#32)) b i = q := by
  have h0 : (broadcastInDim S2048x1024 ![] bcast_S_S2048x1024 (constant S_ .f32 0x00000000#32) : FVec Ideal S2048x1024 .f32) i = (0 : EReal) := by
    pointwise []
  exact (congrArg₂ (fun a b : EReal => a + b) h0 hb).trans (zero_add q)

/-- The eight shares added up in order. -/
def experts (x : FVec Ideal S2048x1024 .f32) (G U : FVec Ideal S8x2048x1024 .f32) (D : FVec Ideal S8x1024x2048 .f32)
    (sel : IVec S2048x2 32) (rw : FVec Ideal S2048x2 .f32) : FVec Ideal S2048x1024 .f32 :=
  addf (addf (addf (addf (addf (addf (addf (addf (broadcastInDim S2048x1024 ![] bcast_S_S2048x1024 (constant S_ .f32 0x00000000#32))
    (share x G U D sel rw 0 slices_S8x2048x1024_S1x2048x1024_0_0_0 slices_S8x1024x2048_S1x1024x2048_0_0_0))
    (share x G U D sel rw 1 slices_S8x2048x1024_S1x2048x1024_1_0_0 slices_S8x1024x2048_S1x1024x2048_1_0_0))
    (share x G U D sel rw 2 slices_S8x2048x1024_S1x2048x1024_2_0_0 slices_S8x1024x2048_S1x1024x2048_2_0_0))
    (share x G U D sel rw 3 slices_S8x2048x1024_S1x2048x1024_3_0_0 slices_S8x1024x2048_S1x1024x2048_3_0_0))
    (share x G U D sel rw 4 slices_S8x2048x1024_S1x2048x1024_4_0_0 slices_S8x1024x2048_S1x1024x2048_4_0_0))
    (share x G U D sel rw 5 slices_S8x2048x1024_S1x2048x1024_5_0_0 slices_S8x1024x2048_S1x1024x2048_5_0_0))
    (share x G U D sel rw 6 slices_S8x2048x1024_S1x2048x1024_6_0_0 slices_S8x1024x2048_S1x1024x2048_6_0_0))
    (share x G U D sel rw 7 slices_S8x2048x1024_S1x2048x1024_7_0_0 slices_S8x1024x2048_S1x1024x2048_7_0_0)

theorem experts_at (x : FVec Ideal S2048x1024 .f32) (G U : FVec Ideal S8x2048x1024 .f32) (D : FVec Ideal S8x1024x2048 .f32)
    (sel : IVec S2048x2 32) (rw : FVec Ideal S2048x2 .f32) (t : Fin 2048) (n : Fin 1024) :
    experts x G U D sel rw (ix2 t n) = ∑ e : Fin 8,
      swiglu (fun k => x (ix2 t k)) (fun j k => G (ix3 e j k)) (fun j k => U (ix3 e j k)) (fun j => D (ix3 e n j))
        * ∑ k : Fin 2, if sel (ix2 t k) = BitVec.ofNat 32 e.val then rw (ix2 t k) else 0 := by
  rw [Fin.sum_univ_eight]
  have h (e : Fin 8) (hg hd) := share_at x G U D sel rw e hg hd t n
  exact (add_share (add_share (add_share (add_share (add_share (add_share (add_share (zero_share (h 0 _ _)) (h 1 _ _)) (h 2 _ _)) (h 3 _ _)) (h 4 _ _)) (h 5 _ _)) (h 6 _ _)) (h 7 _ _))

variable (V0 : Valuation τ sig (Elt Ideal))

/-- The run's accumulated array is that sum. -/
theorem res_experts : res_main_v200 V0 = experts (res_main_v13 V0) (V0 (Proc.devRef .tc main_arg2)) (V0 (Proc.devRef .tc main_arg3))
    (V0 (Proc.devRef .tc main_arg4)) (res_main_v14 V0) (res_main_v15 V0) := rfl

/-- The tokens as rows. -/
theorem rows_at (x : FVec Ideal S1x2048x1024 .f32) (t : Fin 2048) (k : Fin 1024) :
    shapeCast S2048x1024 x shapeCasts_S1x2048x1024_S2048x1024 (ix2 t k) = x (ix3 0 t k) := by
  pointwise []

/-- The shared block and the whole result, as the run states it. -/
def refTerm (x : FVec Ideal S1x2048x1024 .f32) (e : FVec Ideal S2048x1024 .f32) (G U : FVec Ideal S2048x1024 .f32) (D : FVec Ideal S1024x2048 .f32) :
    FVec Ideal S1x2048x1024 .f32 :=
  addf (shapeCast _ e shapeCasts_S2048x1024_S1x2048x1024)
    (shapeCast _ (blockTerm (shapeCast _ x shapeCasts_S1x2048x1024_S2048x1024) G U D) shapeCasts_S2048x1024_S1x2048x1024)

theorem refTerm_at (x : FVec Ideal S1x2048x1024 .f32) (e : FVec Ideal S2048x1024 .f32) (G U : FVec Ideal S2048x1024 .f32) (D : FVec Ideal S1024x2048 .f32)
    (t : Fin 2048) (n : Fin 1024) :
    refTerm x e G U D (ix3 0 t n) = e (ix2 t n) +
      swiglu (fun k => x (ix3 0 t k)) (fun j k => G (ix2 j k)) (fun j k => U (ix2 j k)) (fun j => D (ix2 n j)) := by
  have h1 : refTerm x e G U D (ix3 0 t n) = e (ix2 t n) + blockTerm (shapeCast _ x shapeCasts_S1x2048x1024_S2048x1024) G U D (ix2 t n) := by
    pointwise [refTerm]
  rw [h1, blockTerm_at]
  simp only [rows_at]

/-- The reference's run, its first result at that term. -/
theorem ref_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v212) = refTerm (m ((c.tc : Thread nD τ).loc main_arg0)) (experts (res_main_v13 (launchContents m c)) (m ((c.tc : Thread nD τ).loc main_arg2)) (m ((c.tc : Thread nD τ).loc main_arg3))
        (m ((c.tc : Thread nD τ).loc main_arg4)) (res_main_v14 (launchContents m c)) (res_main_v15 (launchContents m c)))
          (m ((c.tc : Thread nD τ).loc main_arg5)) (m ((c.tc : Thread nD τ).loc main_arg6)) (m ((c.tc : Thread nD τ).loc main_arg7))
      ∧ r.2.mem ((c.tc : Thread nD τ).loc main_cst_18) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1, (h c).2⟩) (run m g)

end Cert.Proof

end
-- ==== Proof.RefRouter.lean ====
/-
  The reference's two choices of a token and their weights: the stable sort's first two positions, and the softmax of their
  scores.
-/
module

public import proofs.«01_k».proof.Proof.RefValue
public import proofs.«01_k».proof.Proof.Select

@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.StableHlo

/-- The scores, as the reference computes them. -/
def refScores (x : FVec Ideal S1x2048x1024 .f32) (w : FVec Ideal S8x1024 .f32) : FVec Ideal S1x2048x8 .f32 :=
  Host.dotGeneral dot_S1x2048x1024_S1024x8_S1x2048x8_2_0_01_1_n_n none x (transpose S1024x8 [1, 0] w transposes_S8x1024_S1024x8_1_0)

theorem refScores_at (x : FVec Ideal S1x2048x1024 .f32) (w : FVec Ideal S8x1024 .f32) (t : Fin 2048) (e : Fin 8) :
    refScores x w (ix3 0 t e) = score (fun k => x (ix3 0 t k)) (fun e k => w (ix2 e k)) e := by
  pointwise [refScores, score]

/-- The sorting order of a token's scores. -/
def before (s : FVec Ideal S1x2048x8 .f32) (t : Fin 2048) (i j : Fin 8) : Bool :=
  Ideal.cmpTotal .gt (s (ix3 0 t i)) (s (ix3 0 t j)) == 1#1

/-- A position of a token's line of scores. -/
theorem along_scores (t : Fin 2048) (k e : Fin 8) : (ix3 0 t k : S1x2048x8.Idx).along 2 e = ix3 0 t e := by
  funext d
  match d with
  | ⟨0, _⟩ => exact Function.update_of_ne (Fin.ne_of_val_ne (show (0 : ℕ) ≠ 2 by decide)) _ _
  | ⟨1, _⟩ => exact Function.update_of_ne (Fin.ne_of_val_ne (show (1 : ℕ) ≠ 2 by decide)) _ _
  | ⟨2, _⟩ => exact Function.update_self _ _ _

/-- The chosen indices are the sort's first two positions. -/
theorem topIdx_at (s : FVec Ideal S1x2048x8 .f32) (t : Fin 2048) (k : Fin 2) :
    (Host.topK S1x2048x2 2 (FloatOps.cmpfTotal (F := Ideal) .gt) s sliceFits_S1x2048x8_S1x2048x2).2 (ix3 0 t k)
      = BitVec.ofNat 32 (sortedFrom (before s t) ⟨k.val, by omega⟩).val := by
  unfold Host.topK Host.sort2
  pointwise []
  simp only [along_scores]
  rfl

/-- The chosen values are the scores there. -/
theorem topVal_at (s : FVec Ideal S1x2048x8 .f32) (t : Fin 2048) (k : Fin 2) :
    (Host.topK S1x2048x2 2 (FloatOps.cmpfTotal (F := Ideal) .gt) s sliceFits_S1x2048x8_S1x2048x2).1 (ix3 0 t k)
      = s (ix3 0 t (sortedFrom (before s t) ⟨k.val, by omega⟩)) := by
  unfold Host.topK Host.sort2
  pointwise []
  simp only [along_scores]
  rfl

/-- They are the first and the second choice. -/
theorem choices (s : FVec Ideal S1x2048x8 .f32) (t : Fin 2048) :
    IsFirst (fun e => s (ix3 0 t e)) (sortedFrom (before s t) 0) ∧ IsSecond (fun e => s (ix3 0 t e)) (sortedFrom (before s t) 0) (sortedFrom (before s t) 1) := by
  classical
  refine sort_first_second (n := 6) (fun e => s (ix3 0 t e)) (before s t) fun i j => ?_
  show (BitVec.ofBool (@decide (s (ix3 0 t j) < s (ix3 0 t i)) _) == 1#1) = _
  by_cases h : s (ix3 0 t j) < s (ix3 0 t i)
  · rw [decide_eq_true h]; rfl
  · rw [decide_eq_false h]; rfl

/-- The softmax of two values. -/
def softTerm (v : FVec Ideal S1x2048x2 .f32) : FVec Ideal S2048x2 .f32 :=
  let e : FVec Ideal S1x2048x2 .f32 := Host.exp (subf v (broadcastInDim S1x2048x2 ![0, 1, 2] bcast_S1x2048x1_S1x2048x2_0_1_2 (broadcastInDim S1x2048x1 ![0, 1] bcast_S1x2048_S1x2048x1_0_1 (maximumf (broadcastInDim S1x2048 ![] bcast_S_S1x2048 (constant S_ .f32 0xFF800000#32)) (Host.reduce FloatOps.maximumf v (constant S_ .f32 0xFF800000#32) reducesTo_S1x2048x2_S1x2048_d2 h_S_)))))
  shapeCast _ (Host.divf e (broadcastInDim S1x2048x2 ![0, 1, 2] bcast_S1x2048x1_S1x2048x2_0_1_2 (broadcastInDim S1x2048x1 ![0, 1] bcast_S1x2048_S1x2048x1_0_1 (Host.reduceAdd e (constant S_ .f32 0x00000000#32) reducesTo_S1x2048x2_S1x2048_d2 h_S_)))) shapeCasts_S1x2048x2_S2048x2

/-- The softmax of two finite values, the first the greater. -/
theorem softTerm_at (v : FVec Ideal S1x2048x2 .f32) (t : Fin 2048) (p q : ℝ) (hp : v (ix3 0 t 0) = (p : EReal)) (hq : v (ix3 0 t 1) = (q : EReal))
    (hle : q ≤ p) (k : Fin 2) :
    softTerm v (ix2 t k) = (weightOf (p : EReal) (q : EReal) k : EReal) := by
  have hm : max (⊥ : EReal) (Finset.univ.fold max ⊥ fun k : Fin 2 => (v (ix3 0 t k) : EReal)) = p := by
    rw [max_eq_right bot_le]
    apply le_antisymm
    · refine (Finset.fold_max_le _).mpr ⟨bot_le, fun k _ => ?_⟩
      rcases (show k = 0 ∨ k = 1 by omega) with rfl | rfl
      · exact hp.le
      · exact hq.le.trans (EReal.coe_le_coe_iff.mpr hle)
    · exact (Finset.le_fold_max _).mpr (Or.inr ⟨0, Finset.mem_univ _, hp.ge⟩)
  pointwise [softTerm]
  rw [ofBits_bot, hm, Fin.sum_univ_two]
  have h0 : Ideal.exp ((p : EReal) - p) = 1 := by
    rw [← EReal.coe_sub, sub_self]
    show ((Real.exp 0 : ℝ) : EReal) = 1
    rw [Real.exp_zero]; rfl
  rcases (show k = 0 ∨ k = 1 by omega) with rfl | rfl
  · rw [hp, hq, h0]; rfl
  · rw [hp, hq, h0]; rfl

variable (V0 : Valuation τ sig (Elt Ideal))

theorem res_idx : res_main_v14 V0 = shapeCast _ (Host.topK S1x2048x2 2 (FloatOps.cmpfTotal (F := Ideal) .gt) (refScores (V0 (Proc.devRef .tc main_arg0)) (V0 (Proc.devRef .tc main_arg1))) sliceFits_S1x2048x8_S1x2048x2).2 shapeCasts_S1x2048x2_S2048x2 := rfl

theorem res_weights : res_main_v15 V0 = softTerm (Host.topK S1x2048x2 2 (FloatOps.cmpfTotal (F := Ideal) .gt) (refScores (V0 (Proc.devRef .tc main_arg0)) (V0 (Proc.devRef .tc main_arg1))) sliceFits_S1x2048x8_S1x2048x2).1 := rfl

variable {V0}

/-- The reference's choices, whatever the two are called. -/
theorem refChoice_at {t : Fin 2048} {a b : Fin 8}
    (ha : IsFirst (fun e => refScores (V0 (Proc.devRef .tc main_arg0)) (V0 (Proc.devRef .tc main_arg1)) (ix3 0 t e)) a)
    (hb : IsSecond (fun e => refScores (V0 (Proc.devRef .tc main_arg0)) (V0 (Proc.devRef .tc main_arg1)) (ix3 0 t e)) a b) (k : Fin 2) :
    res_main_v14 V0 (ix2 t k) = BitVec.ofNat 32 (if k = 0 then a else b).val := by
  have hc := choices (refScores (V0 (Proc.devRef .tc main_arg0)) (V0 (Proc.devRef .tc main_arg1))) t
  rw [ha.unique hc.1] at hb ⊢
  rw [hb.unique hc.2]
  have h1 : res_main_v14 V0 (ix2 t k) = (Host.topK S1x2048x2 2 (FloatOps.cmpfTotal (F := Ideal) .gt) (refScores (V0 (Proc.devRef .tc main_arg0)) (V0 (Proc.devRef .tc main_arg1))) sliceFits_S1x2048x8_S1x2048x2).2 (ix3 0 t k) := by
    rw [res_idx]
    generalize (Host.topK S1x2048x2 2 (FloatOps.cmpfTotal (F := Ideal) .gt) (refScores (V0 (Proc.devRef .tc main_arg0)) (V0 (Proc.devRef .tc main_arg1))) sliceFits_S1x2048x8_S1x2048x2).2 = y
    pointwise []
  rw [h1, topIdx_at]
  rcases (show k = 0 ∨ k = 1 by omega) with rfl | rfl
  · rfl
  · rfl

/-- The reference's weights: the softmax of the two chosen scores, these finite. -/
theorem refWeight_at {t : Fin 2048} {a b : Fin 8}
    (hl : ∀ e, ∃ r : ℝ, refScores (V0 (Proc.devRef .tc main_arg0)) (V0 (Proc.devRef .tc main_arg1)) (ix3 0 t e) = (r : EReal))
    (ha : IsFirst (fun e => refScores (V0 (Proc.devRef .tc main_arg0)) (V0 (Proc.devRef .tc main_arg1)) (ix3 0 t e)) a)
    (hb : IsSecond (fun e => refScores (V0 (Proc.devRef .tc main_arg0)) (V0 (Proc.devRef .tc main_arg1)) (ix3 0 t e)) a b) (k : Fin 2) :
    res_main_v15 V0 (ix2 t k) = (weightOf (refScores (V0 (Proc.devRef .tc main_arg0)) (V0 (Proc.devRef .tc main_arg1)) (ix3 0 t a)) (refScores (V0 (Proc.devRef .tc main_arg0)) (V0 (Proc.devRef .tc main_arg1)) (ix3 0 t b)) k : EReal) := by
  have hc := choices (refScores (V0 (Proc.devRef .tc main_arg0)) (V0 (Proc.devRef .tc main_arg1))) t
  have hle := ha.le b
  rw [ha.unique hc.1] at hb hle ⊢
  rw [hb.unique hc.2] at hle ⊢
  obtain ⟨p, hp⟩ := hl (sortedFrom (before (refScores (V0 (Proc.devRef .tc main_arg0)) (V0 (Proc.devRef .tc main_arg1))) t) 0)
  obtain ⟨q, hq⟩ := hl (sortedFrom (before (refScores (V0 (Proc.devRef .tc main_arg0)) (V0 (Proc.devRef .tc main_arg1))) t) 1)
  rw [res_weights, hp, hq]
  refine softTerm_at _ t p q ((topVal_at _ t 0).trans hp) ((topVal_at _ t 1).trans hq) ?_ k
  exact EReal.coe_le_coe_iff.mp (hq ▸ hp ▸ hle)

end Cert.Proof

end
-- ==== Proof.RefAnswer.lean ====
/-
  The reference computes the layer's result.
-/
module

public import proofs.«01_k».proof.Proof.Answer
public import proofs.«01_k».proof.Proof.RefValue
public import proofs.«01_k».proof.Proof.RefRouter

@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.StableHlo Idealize.SL.Sem

/-- The combination of the experts and the shared block, from the choices and the weights of the token. -/
theorem combine_at (x : FVec Ideal S1x2048x1024 .f32) (w : FVec Ideal S8x1024 .f32) (G U : FVec Ideal S8x2048x1024 .f32) (D : FVec Ideal S8x1024x2048 .f32)
    (SG SU : FVec Ideal S2048x1024 .f32) (SD : FVec Ideal S1024x2048 .f32) (sel : IVec S2048x2 32) (rw : FVec Ideal S2048x2 .f32) (a b : Fin 8) (hab : b ≠ a)
    (t : Fin 2048) (n : Fin 1024) (hs : ∀ k : Fin 2, sel (ix2 t k) = BitVec.ofNat 32 (if k = 0 then a else b).val)
    (hw : ∀ k : Fin 2, rw (ix2 t k) = (weightOf (scoreAt x w t a) (scoreAt x w t b) k : EReal)) :
    refTerm x (experts (shapeCast S2048x1024 x shapeCasts_S1x2048x1024_S2048x1024) G U D sel rw) SG SU SD (ix3 0 t n)
      = (answerAt x w G U D SG SU SD a b t n : EReal) := by
  rw [refTerm_at, experts_at]
  simp only [hs, hw, rows_at]
  unfold answerAt
  rw [add_comm]
  exact Ideal.add_congr rfl (sum_experts (expertAt x G U D t n) a b hab (weightOf (scoreAt x w t a) (scoreAt x w t b)))

variable (V0 : Valuation τ sig (Elt Ideal))

theorem ref_scores (t : Fin 2048) (e : Fin 8) : refScores (V0 (Proc.devRef .tc main_arg0)) (V0 (Proc.devRef .tc main_arg1)) (ix3 0 t e)
    = (scoreAt (V0 (Proc.devRef .tc main_arg0)) (V0 (Proc.devRef .tc main_arg1)) t e : EReal) := refScores_at _ _ t e

/-- An entry of the reference's result. -/
theorem ref_at {t : Fin 2048} {a b : Fin 8}
    (hx : ∀ e, ∃ r : ℝ, scoreAt (V0 (Proc.devRef .tc main_arg0)) (V0 (Proc.devRef .tc main_arg1)) t e = (r : EReal))
    (ha : IsFirst (scoreAt (V0 (Proc.devRef .tc main_arg0)) (V0 (Proc.devRef .tc main_arg1)) t) a)
    (hb : IsSecond (scoreAt (V0 (Proc.devRef .tc main_arg0)) (V0 (Proc.devRef .tc main_arg1)) t) a b) (n : Fin 1024) :
    refTerm (V0 (Proc.devRef .tc main_arg0)) (experts (res_main_v13 V0) (V0 (Proc.devRef .tc main_arg2)) (V0 (Proc.devRef .tc main_arg3))
        (V0 (Proc.devRef .tc main_arg4)) (res_main_v14 V0) (res_main_v15 V0))
        (V0 (Proc.devRef .tc main_arg5)) (V0 (Proc.devRef .tc main_arg6)) (V0 (Proc.devRef .tc main_arg7)) (ix3 0 t n)
      = (answerAt (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7)) a b t n : EReal) := by
  have he : (fun e => refScores (V0 (Proc.devRef .tc main_arg0)) (V0 (Proc.devRef .tc main_arg1)) (ix3 0 t e))
      = scoreAt (V0 (Proc.devRef .tc main_arg0)) (V0 (Proc.devRef .tc main_arg1)) t := funext (ref_scores V0 t)
  have ha' := he ▸ ha
  have hb' := he ▸ hb
  refine combine_at _ _ _ _ _ _ _ _ (res_main_v14 V0) (res_main_v15 V0) a b hb.1 t n (refChoice_at ha' hb') fun k => ?_
  refine (refWeight_at (fun e => ?_) ha' hb' k).trans ?_
  · obtain ⟨r, hr⟩ := hx e
    exact ⟨r, (ref_scores V0 t e).trans hr⟩
  · exact congrArg₂ (fun p q => weightOf p q k) (ref_scores V0 t a) (ref_scores V0 t b)

end Cert.Proof

end
-- ==== Proof.Plan.lean ====
/-
  The placement of the routed slots, over the natural numbers: how many slots choose an expert, the rows set aside for
  it, where a slot's row lies, that no two slots share a row, and which expert a block of rows belongs to.
-/
module

public import Idealize.ShloMosaic.Lib.Routing.Count
public import Mathlib.Algebra.BigOperators.Intervals
public import Mathlib.Order.SuccPred.Basic
public import Mathlib.Tactic.IntervalCases
public import Mathlib.Tactic.FinCases

@[expose] public section

namespace Cert.Proof.Plan

open Idealize.ShloMosaic.Routing

/-- The slots that choose expert `e`. -/
def cnt (s : ℕ → ℕ) (e : ℕ) : ℕ := Nat.count (fun j => s j = e) 4096

/-- The rows set aside for expert `e`: that many slots, in whole blocks. -/
def pad (s : ℕ → ℕ) (e : ℕ) : ℕ := (cnt s e + 127) / 128 * 128

/-- Where the rows of expert `e` end. -/
def ends (s : ℕ → ℕ) (e : ℕ) : ℕ := ((List.range (e + 1)).map (pad s)).sum

/-- Where they begin. -/
def off (s : ℕ → ℕ) (e : ℕ) : ℕ := ends s e - pad s e

/-- The earlier slots with the same expert. -/
def rank (s : ℕ → ℕ) (j : ℕ) : ℕ := Nat.count (fun i => s i = s j) j

/-- The row of slot `j`. -/
def dest (s : ℕ → ℕ) (j : ℕ) : ℕ := off s (s j) + rank s j

variable (s : ℕ → ℕ)

theorem ends_succ (e : ℕ) : ends s (e + 1) = ends s e + pad s (e + 1) := by
  unfold ends
  rw [List.range_succ (n := e + 1), List.map_append, List.sum_append]
  simp

theorem off_add (e : ℕ) : off s e + pad s e = ends s e := by
  unfold off
  have : pad s e ≤ ends s e := by
    cases e with
    | zero => simp [ends]
    | succ e => rw [ends_succ]; omega
  omega

theorem off_succ (e : ℕ) : off s (e + 1) = ends s e := by
  have h := off_add s (e + 1)
  rw [ends_succ] at h
  omega

theorem off_zero : off s 0 = 0 := by simp [off, ends]

theorem dvd_ends (e : ℕ) : 128 ∣ ends s e := by
  induction e with
  | zero => simp [ends, pad]
  | succ e ih => rw [ends_succ]; exact Nat.dvd_add ih (Dvd.intro_left _ rfl)

theorem dvd_off (e : ℕ) : 128 ∣ off s e := by
  cases e with
  | zero => rw [off_zero]; exact ⟨0, rfl⟩
  | succ e => rw [off_succ]; exact dvd_ends s e

theorem ends_mono {a b : ℕ} (h : a ≤ b) : ends s a ≤ ends s b := by
  induction b, h using Nat.le_induction with
  | base => exact le_rfl
  | succ b _ ih => rw [ends_succ]; omega

theorem ends_le_off {a b : ℕ} (h : a < b) : ends s a ≤ off s b := by
  obtain ⟨c, rfl⟩ : ∃ c, b = c + 1 := ⟨b - 1, by omega⟩
  rw [off_succ]
  exact ends_mono s (by omega)

/-- Counting the slots expert by expert finds every slot once. -/
theorem sum_count (N : ℕ) (h : ∀ j < N, s j < 8) : ∑ e ∈ Finset.range 8, Nat.count (fun j => s j = e) N = N := by
  induction N with
  | zero => simp
  | succ N ih =>
    simp only [Nat.count_succ, Finset.sum_add_distrib]
    rw [ih fun j hj => h j (by omega)]
    have := h N (by omega)
    rw [Finset.sum_ite_eq, if_pos (Finset.mem_range.2 this)]

theorem ends_le (h : ∀ j < 4096, s j < 8) : ends s 7 ≤ 4992 := by
  have hs : ∑ e ∈ Finset.range 8, cnt s e = 4096 := sum_count s 4096 h
  have he : ends s 7 = pad s 0 + pad s 1 + pad s 2 + pad s 3 + pad s 4 + pad s 5 + pad s 6 + pad s 7 := by
    simp only [ends_succ]
    simp [ends]
  simp only [Finset.sum_range_succ, Finset.sum_range_zero] at hs
  rw [he]
  unfold pad
  omega

theorem pad_le (e : ℕ) : cnt s e ≤ pad s e := by unfold pad; omega

theorem cnt_le (e : ℕ) : cnt s e ≤ 4096 := Nat.count_le _

theorem rank_lt {j : ℕ} (hj : j < 4096) : rank s j < cnt s (s j) := by
  have h : Nat.count (fun i => s i = s j) (j + 1) = rank s j + 1 := by rw [Nat.count_succ, if_pos rfl]; rfl
  have := Nat.count_monotone (fun i => s i = s j) (show j + 1 ≤ 4096 by omega)
  unfold cnt
  omega

theorem off_le_dest (j : ℕ) : off s (s j) ≤ dest s j := Nat.le_add_right _ _

theorem dest_lt_ends {j : ℕ} (hj : j < 4096) : dest s j < ends s (s j) := by
  have := rank_lt s hj
  have := pad_le s (s j)
  have := off_add s (s j)
  unfold dest
  omega

theorem dest_lt (h : ∀ j < 4096, s j < 8) {j : ℕ} (hj : j < 4096) : dest s j < 4992 :=
  lt_of_lt_of_le (dest_lt_ends s hj) ((ends_mono s (by have := h j hj; omega)).trans (ends_le s h))

/-- No two slots share a row. -/
theorem dest_inj {i j : ℕ} (hi : i < 4096) (hj : j < 4096) (h : dest s i = dest s j) : i = j := by
  rcases lt_trichotomy (s i) (s j) with hlt | heq | hlt
  · have := ends_le_off s hlt
    have := dest_lt_ends s hi
    have := off_le_dest s j
    omega
  · have hr : rank s i = rank s j := by unfold dest at h; rw [heq] at h; omega
    unfold rank at hr
    rw [heq] at hr
    by_contra hne
    rcases Nat.lt_or_gt_of_ne hne with hlt | hlt
    · have h1 : Nat.count (fun k => s k = s j) (i + 1) = Nat.count (fun k => s k = s j) i + 1 := by
        rw [Nat.count_succ, if_pos heq]
      have := Nat.count_monotone (fun k => s k = s j) (show i + 1 ≤ j by omega)
      omega
    · have h1 : Nat.count (fun k => s k = s j) (j + 1) = Nat.count (fun k => s k = s j) j + 1 := by
        rw [Nat.count_succ, if_pos rfl]
      have := Nat.count_monotone (fun k => s k = s j) (show j + 1 ≤ i by omega)
      omega
  · have := ends_le_off s hlt
    have := dest_lt_ends s hj
    have := off_le_dest s i
    omega

/-- The block a slot's row lies in is past the ends of exactly the experts before the slot's own. -/
theorem block_expert {j : ℕ} (h : ∀ j < 4096, s j < 8) (hj : j < 4096) :
    Nat.count (fun e => ends s e ≤ dest s j / 128 * 128) 8 = s j := by
  have hlt := h j hj
  have h1 := dest_lt_ends s hj
  have h2 := off_le_dest s j
  obtain ⟨k, hk⟩ := dvd_off s (s j)
  have key : ∀ e, e < 8 → (ends s e ≤ dest s j / 128 * 128 ↔ e < s j) := fun e _ => by
    constructor
    · intro he
      by_contra hn
      have := ends_mono s (show s j ≤ e by omega)
      omega
    · intro he
      have := ends_le_off s he
      omega
  rw [count_congr_of_lt (Q := fun e => e < s j) 8 key]
  generalize s j = n at hlt
  interval_cases n <;> decide

end Cert.Proof.Plan

end
-- ==== Proof.Dispatch.lean ====
/-
  What the host computes between the two calls, entry by entry: from the slots' experts, the rows' ends, the row of
  every slot, the token and the weight of every row, and the expert of every block of rows.
-/
module

public import proofs.«01_k».proof.Proof.Plan
public import proofs.«01_k».proof.Proof.Table
public import Idealize.ShloMosaic.Lib.Routing.OpsOne
public import Idealize.ShloMosaic.Lib.Routing.OpsPair
public import Idealize.ShloMosaic.Lib.Routing.OpsSet
public import Idealize.ShloMosaic.Lib.Routing.Words
public import Idealize.ShloMosaic.Lib.WordCmp

@[expose] public section

set_option maxRecDepth 16384

noncomputable section

namespace Cert.Proof

open Cert.KernelIdeal Cert.KernelIdeal.Gen
open Idealize.ShloMosaic hiding ix0 ix1 ix2 ix3 eq_ix1
open Idealize.ShloMosaic.TcCoe Idealize.ShloMosaic.Routing Idealize.ShloMosaic.ValueIdx

/-! ## The host's terms -/

/-- Which expert each slot chooses, as a mask. -/
def chooses (v : IVec S4096 32) : IVec S4096x8 1 :=
  cmpi .eq
    (broadcastInDim S4096x8 ![0, 1] bcast_S4096x1_S4096x8_0_1 (broadcastInDim S4096x1 ![0] bcast_S4096_S4096x1_0 v))
    (broadcastInDim S4096x8 ![0, 1] bcast_S1x8_S4096x8_0_1 (broadcastInDim S1x8 ![1] bcast_S8_S1x8_1 (iotaInDim S8 32 0)))

/-- The same as words. -/
def oneHot (v : IVec S4096 32) : IVec S4096x8 32 := extui 32 (chooses v) natLt_1_32

/-- The rows set aside for each expert. -/
def padded (v : IVec S4096 32) : IVec S8 32 :=
  muli (pyDiv bcast_S_S8
      (subi (addi (Host.reduce IntOp.addi (oneHot v) (constantI S_ 32 0#32) reducesTo_S4096x8_S8_d0 h_S_)
        (broadcastInDim S8 ![] bcast_S_S8 (constantI S_ 32 128#32))) (broadcastInDim S8 ![] bcast_S_S8 (constantI S_ 32 1#32)))
      (constantI S_ 32 128#32))
    (broadcastInDim S8 ![] bcast_S_S8 (constantI S_ 32 128#32))

/-- Where each expert's rows end. -/
def endsOf (v : IVec S4096 32) : IVec S8 32 :=
  Host.reduceWindow IntOp.addi ![8] ![1] ![7] ![0] (padded v) (broadcastInDim S_ ![] bcast_S_S_ (constantI S_ 32 0#32)) reduceWindows_S8_S8_w8s1p7_0 h_S_

/-- The running count of each expert's slots. -/
def running (v : IVec S4096 32) : IVec S4096x8 32 :=
  Host.reduceWindow IntOp.addi ![4096, 1] ![1, 1] ![4095, 0] ![0, 0] (oneHot v) (broadcastInDim S_ ![] bcast_S_S_ (constantI S_ 32 0#32))
    reduceWindows_S4096x8_S4096x8_w4096s1p4095_0_w1s1p0_0 h_S_

/-- Each slot's place among its expert's slots. -/
def rankOf (v : IVec S4096 32) : IVec S4096 32 :=
  Host.reduce IntOp.addi (muli (subi (running v) (broadcastInDim S4096x8 ![] bcast_S_S4096x8 (constantI S_ 32 1#32))) (oneHot v))
    (constantI S_ 32 0#32) reducesTo_S4096x8_S4096_d1 h_S_

/-- Numbers below zero moved up by `b`, as a column. -/
def wrapCol (b : BitVec 32) (v : IVec S4096 32) : IVec S4096x1 32 :=
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 b))) v)

/-- Each slot's row. -/
def destOf (v : IVec S4096 32) : IVec S4096 32 :=
  addi (Host.gather gather_S8_S4096x1_S4096_n_0_n_n_0_1_1 (subi (endsOf v) (padded v)) (wrapCol 8#32 v)) (rankOf v)

/-- Each slot's token. -/
def tokens : IVec S4096 32 := pyDiv bcast_S_S4096 (iotaInDim S4096 32 0) (constantI S_ 32 2#32)

/-- The token of each row, zero where there is none. -/
def rowToken (d : IVec S4096 32) : IVec S4992 32 :=
  Host.scatter scatter_S4992_S4096x1_S4096_n_0_0_1 (fun _ b => b) (broadcastInDim S4992 ![] bcast_S_S4992 (constantI S_ 32 0#32)) (wrapCol 4992#32 d) tokens

/-! ## Entry by entry -/

/-- A host sum of words along a row is the row's sum. -/
theorem reduce_row (x : IVec S4096x8 32) (j : Fin 4096) :
    Host.reduce IntOp.addi x (constantI S_ 32 0#32) reducesTo_S4096x8_S4096_d1 h_S_ (ix1 j) = ∑ e : Fin 8, x (ix2 j e) := by
  classical
  rw [Host.reduce_eq_fold]
  have hfold : ∀ S : Finset S4096x8.Idx, Finset.fold IntOp.addi 0#32 x S = ∑ i ∈ S, x i := fun S => by
    induction S using Finset.induction_on with
    | empty => rfl
    | insert a S ha ih => rw [Finset.fold_insert ha, Finset.sum_insert ha, ih]; rfl
  refine (hfold _).trans ?_
  have hdrop : ∀ i : S4096x8.Idx, reducesTo_S4096x8_S4096_d1.drop i = ix1 j ↔ i 0 = j := by
    intro i
    have hw : (reducesTo_S4096x8_S4096_d1.drop i 0 : Nat) = i 0 := Shape.ReducesTo.drop_apply_val reducesTo_S4096x8_S4096_d1 i 0
    constructor
    · intro e; rw [e] at hw; exact Fin.ext hw.symm
    · intro e; funext b; obtain rfl : b = 0 := Subsingleton.elim _ _; exact Fin.ext (by rw [hw, e])
  have hback : ∀ i : S4096x8.Idx, i 0 = j → (ix2 j (i 1 : Fin 8) : S4096x8.Idx) = i := fun i h0 => by
    funext b; match b with
    | ⟨0, _⟩ => exact h0.symm
    | ⟨1, _⟩ => rfl
  refine Finset.sum_bij' (fun i _ => (i 1 : Fin 8)) (fun q _ => (ix2 j q : S4096x8.Idx)) (fun _ _ => Finset.mem_univ _)
    (fun q _ => Finset.mem_filter.2 ⟨Finset.mem_univ _, (hdrop _).2 rfl⟩)
    (fun i hi => hback i ((hdrop i).1 (Finset.mem_filter.1 hi).2)) (fun _ _ => rfl) ?_
  intro i hi
  exact congrArg x (hback i ((hdrop i).1 (Finset.mem_filter.1 hi).2)).symm

/-- A column of numbers that are not negative is left as it is. -/
theorem wrapCol_at (b : BitVec 32) (v : IVec S4096 32) (j : Fin 4096) {n : ℕ} (hn : n < 2 ^ 31) (hv : v (ix1 j) = BitVec.ofNat 32 n) :
    wrapCol b v (ix2 j (0 : Fin 1)) = BitVec.ofNat 32 n := by
  refine (bcCol bcast_S4096_S4096x1_0 _ j).trans ?_
  show Scalar.select (IntOp.cmpi .slt (v (ix1 j)) (broadcastInDim S4096 ![] bcast_S_S4096 (constantI S_ 32 0#32) (ix1 j))) _ (v (ix1 j)) = _
  rw [bc0, hv]
  exact wrap_of_lt _ _ (by rw [BitVec.toNat_ofNat, Nat.mod_eq_of_lt (by omega)]; exact hn)

/-- Where an update of the rows' scatter lands. -/
theorem row_lands (idx : IVec S4096x1 32) (j : Fin 4096) (r : Fin 4992) {n : ℕ} (hn : n < 2 ^ 31) (hi : idx (ix2 j (0 : Fin 1)) = BitVec.ofNat 32 n) :
    scatter_S4992_S4096x1_S4096_n_0_0_1.resultIdx? (ix1 j) idx = some (ix1 r) ↔ n = r.val := by
  rw [resultIdx?_ix1]
  have h1 : scatter_S4992_S4096x1_S4096_n_0_0_1.window (ix1 j) 0 = 0 := rfl
  have h2 : scatter_S4992_S4096x1_S4096_n_0_0_1.start (ix1 j) idx 0 = (idx (ix2 j (0 : Fin 1))).toInt := by
    unfold ScatterDims.start
    rw [dif_pos (by decide)]
    refine congrArg (fun i => (idx i).toInt) (funext fun a => Fin.ext ?_)
    match a with
    | ⟨0, _⟩ => rfl
    | ⟨1, _⟩ => rfl
  rw [h1, h2, hi, StableHlo.Predicate.toInt_ofNat_small _ hn]
  omega

section Words

variable {v : IVec S4096 32} {s : ℕ → ℕ} (hv : ∀ j : Fin 4096, v (ix1 j) = BitVec.ofNat 32 (s j.val)) (hs : ∀ j < 4096, s j < 8)
include hv hs

theorem chooses_at (j : Fin 4096) (e : Fin 8) : chooses v (ix2 j e) = 1#1 ↔ s j.val = e.val := by
  have h1 := bcRows bcast_S4096_S4096x1_0 bcast_S4096x1_S4096x8_0_1 v j e
  have h2 := bcCols bcast_S8_S1x8_1 bcast_S1x8_S4096x8_0_1 (iotaInDim S8 32 0) j e
  have h3 : chooses v (ix2 j e) = IntOp.cmpi .eq (BitVec.ofNat 32 (s j.val)) (BitVec.ofNat 32 e.val) := by
    refine (congrArg₂ (IntOp.cmpi .eq) h1 h2).trans ?_
    rw [hv j]
    rfl
  rw [h3]
  have := hs j.val j.isLt
  have := e.isLt
  generalize s j.val = a at *
  interval_cases a <;> fin_cases e <;> decide

theorem oneHot_at (j : Fin 4096) (e : Fin 8) : oneHot v (ix2 j e) = BitVec.ofNat 32 (if s j.val = e.val then 1 else 0) := by
  have h := chooses_at hv hs j e
  show (chooses v (ix2 j e)).setWidth 32 = _
  rcases BitVec.eq_zero_or_eq_one (chooses v (ix2 j e)) with h0 | h1
  · rw [h0, if_neg fun hc => by rw [h.2 hc] at h0; exact absurd h0 (by decide)]
    rfl
  · rw [h1, if_pos (h.1 h1)]
    rfl

theorem count_at (e : Fin 8) :
    Host.reduce IntOp.addi (oneHot v) (constantI S_ 32 0#32) reducesTo_S4096x8_S8_d0 h_S_ (ix1 e) = BitVec.ofNat 32 (Plan.cnt s e.val) := by
  apply BitVec.eq_of_toNat_eq
  refine (StableHlo.Predicate.toNat_reduce_count_rows (n := 4096) (m := 8) (by decide) (chooses v) natLt_1_32 reducesTo_S4096x8_S8_d0 h_S_ (ix1 e)).trans ?_
  have hc : Plan.cnt s e.val ≤ 4096 := Plan.cnt_le s _
  rw [BitVec.toNat_ofNat, Nat.mod_eq_of_lt (by omega)]
  unfold Plan.cnt
  rw [← card_filter_fin 4096 fun j => s j = e.val]
  refine congrArg Finset.card (Finset.filter_congr fun q _ => ?_)
  have := chooses_at hv hs q e
  rw [← this]
  refine Eq.congr (congrArg _ ?_) rfl
  exact ij_eq_ix2 q e

theorem padded_at (e : Fin 8) : padded v (ix1 e) = BitVec.ofNat 32 (Plan.pad s e.val) := by
  have hc : Plan.cnt s e.val ≤ 4096 := Plan.cnt_le s _
  have h := pyDiv_ap bcast_S_S8
      (subi (addi (Host.reduce IntOp.addi (oneHot v) (constantI S_ 32 0#32) reducesTo_S4096x8_S8_d0 h_S_)
        (broadcastInDim S8 ![] bcast_S_S8 (constantI S_ 32 128#32))) (broadcastInDim S8 ![] bcast_S_S8 (constantI S_ 32 1#32)))
      (constantI S_ 32 128#32) (ix1 e) (a := Plan.cnt s e.val + 127) (b := 128) (by
        rw [subi_ap, addi_ap, count_at hv hs e, bc0, bc0]
        show _ + 128#32 - 1#32 = _
        rw [BitVec.ofNat_add, sub_eq_add_neg, add_assoc]
        rfl) rfl (by omega) (by decide) (by decide)
  show _ * _ = _
  refine (congrArg₂ (· * ·) h (bc0 bcast_S_S8 _ _)).trans ?_
  show BitVec.ofNat 32 _ * BitVec.ofNat 32 128 = _
  rw [← BitVec.ofNat_mul]
  rfl

theorem endsOf_at (e : Fin 8) : endsOf v (ix1 e) = BitVec.ofNat 32 (Plan.ends s e.val) :=
  cumsum1 (N := 8) (Nm1 := 7) rfl (padded v) (Plan.pad s) (padded_at hv hs) _ (bc0 bcast_S_S_ _ _) reduceWindows_S8_S8_w8s1p7_0 h_S_ e

theorem running_at (j : Fin 4096) (e : Fin 8) : running v (ix2 j e) = BitVec.ofNat 32 (Nat.count (fun i => s i = e.val) (j.val + 1)) := by
  refine (cumsum_rows (R := 4096) (Rm1 := 4095) (C := 8) rfl (oneHot v) (fun i c => if s i = c then 1 else 0) (oneHot_at hv hs) _ (bc0 bcast_S_S_ _ _)
    reduceWindows_S4096x8_S4096x8_w4096s1p4095_0_w1s1p0_0 h_S_ j e).trans ?_
  exact congrArg (BitVec.ofNat 32) (sum_map_ite (fun i => s i = e.val) (j.val + 1))

theorem rank_at (j : Fin 4096) : rankOf v (ix1 j) = BitVec.ofNat 32 (Plan.rank s j.val) := by
  refine (reduce_row _ j).trans ?_
  have hx : ∀ e : Fin 8, muli (subi (running v) (broadcastInDim S4096x8 ![] bcast_S_S4096x8 (constantI S_ 32 1#32))) (oneHot v) (ix2 j e)
      = (BitVec.ofNat 32 (Nat.count (fun i => s i = e.val) (j.val + 1)) - 1#32) * BitVec.ofNat 32 (if s j.val = e.val then 1 else 0) := fun e => by
    rw [muli_ap, subi_ap, running_at hv hs, oneHot_at hv hs, bc0]
    rfl
  rw [Finset.sum_congr rfl fun e _ => hx e, Finset.sum_eq_single (⟨s j.val, hs _ j.isLt⟩ : Fin 8)]
  · rw [if_pos rfl, Nat.count_succ, if_pos rfl, BitVec.ofNat_add, add_sub_cancel_right]
    exact mul_one _
  · intro e _ he
    rw [if_neg fun hc => he (Fin.ext hc.symm)]
    exact mul_zero _
  · intro h
    exact (h (Finset.mem_univ _)).elim

theorem dest_at (j : Fin 4096) : destOf v (ix1 j) = BitVec.ofNat 32 (Plan.dest s j.val) := by
  have hsj := hs _ j.isLt
  have h1 := gather_take1 gather_S8_S4096x1_S4096_n_0_n_n_0_1_1 rfl rfl rfl rfl (subi (endsOf v) (padded v)) (wrapCol 8#32 v) j ⟨s j.val, hsj⟩
    (wrapCol_at 8#32 v j (by omega) (hv j)) (by decide)
  unfold destOf
  rw [addi_ap, rank_at hv hs]
  refine (congrArg (· + _) (h1.trans ?_)).trans (BitVec.ofNat_add _ _).symm
  rw [subi_ap, endsOf_at hv hs, padded_at hv hs]
  show BitVec.ofNat 32 (Plan.ends s (s j.val)) - BitVec.ofNat 32 (Plan.pad s (s j.val)) = _
  rw [← Plan.off_add s (s j.val), BitVec.ofNat_add, add_sub_cancel_right]

omit hv hs in
theorem tokens_at (j : Fin 4096) : tokens (ix1 j) = BitVec.ofNat 32 (j.val / 2) :=
  pyDiv_ap bcast_S_S4096 _ _ (ix1 j) (iota1_ap j) rfl (by have := j.isLt; omega) (by decide) (by decide)

/-- What the rows' scatter leaves in a slot's row. -/
theorem scatter_hit {α : Type} (x : S4992.Idx → α) (u : S4096.Idx → α) (j : Fin 4096) :
    Host.scatter scatter_S4992_S4096x1_S4096_n_0_0_1 (fun _ b => b) x (wrapCol 4992#32 (destOf v)) u (ix1 ⟨Plan.dest s j.val, Plan.dest_lt s hs j.isLt⟩) = u (ix1 j) := by
  have hw : ∀ i : Fin 4096, wrapCol 4992#32 (destOf v) (ix2 i (0 : Fin 1)) = BitVec.ofNat 32 (Plan.dest s i.val) := fun i =>
    wrapCol_at _ _ i (by have := Plan.dest_lt s hs i.isLt; omega) (dest_at hv hs i)
  refine scatter_set_hit _ x _ u _ _ (fun k hk => ?_) (ix1 j) ((row_lands _ j _ (by have := Plan.dest_lt s hs j.isLt; omega) (hw j)).2 rfl)
  obtain ⟨i, rfl⟩ : ∃ i : Fin 4096, k = ix1 i := ⟨k 0, eq_ix1 k⟩
  have h := (row_lands _ i _ (by have := Plan.dest_lt s hs i.isLt; omega) (hw i)).1 hk
  have : i = j := Fin.ext (Plan.dest_inj s i.isLt j.isLt h)
  rw [this]

/-- And in the other rows. -/
theorem scatter_miss {α : Type} (x : S4992.Idx → α) (u : S4096.Idx → α) (r : Fin 4992) (hr : ∀ j : Fin 4096, Plan.dest s j.val ≠ r.val) :
    Host.scatter scatter_S4992_S4096x1_S4096_n_0_0_1 (fun _ b => b) x (wrapCol 4992#32 (destOf v)) u (ix1 r) = x (ix1 r) := by
  refine scatter_set_miss _ x _ u _ fun k hk => ?_
  obtain ⟨i, rfl⟩ : ∃ i : Fin 4096, k = ix1 i := ⟨k 0, eq_ix1 k⟩
  exact hr i ((row_lands _ i _ (by have := Plan.dest_lt s hs i.isLt; omega)
    (wrapCol_at _ _ i (by have := Plan.dest_lt s hs i.isLt; omega) (dest_at hv hs i))).1 hk)

/-- The expert of the block that holds a slot's row is the slot's. -/
theorem expert_at (j : Fin 4096) (b : Fin 39) (hb : b.val = Plan.dest s j.val / 128) :
    blockExpert (endsOf v) (ix1 b) = BitVec.ofNat 32 (s j.val) := by
  have hsj := hs _ j.isLt
  rw [blockExpert_at (endsOf v) (fun e => Plan.ends s e ≤ b.val * 128) b fun q => ?_]
  · rw [hb, Plan.block_expert s hs j.isLt, Nat.min_eq_left (by omega)]
  · have h1 : blockPast (endsOf v) (ix2 b q) = IntOp.cmpi .sge (BitVec.ofNat 32 (b.val * 128)) (BitVec.ofNat 32 (Plan.ends s q.val)) := by
      refine congrArg₂ (IntOp.cmpi .sge) ((bcRows bcast_S39_S39x1_0 bcast_S39x1_S39x8_0_1 _ b q).trans ?_)
        ((bcCols bcast_S8_S1x8_1 bcast_S1x8_S39x8_0_1 (endsOf v) b q).trans (endsOf_at hv hs q))
      rw [muli_ap, bc0, iota1_ap, BitVec.ofNat_mul]
      rfl
    have hb' := b.isLt
    have he : Plan.ends s q.val ≤ 4992 := (Plan.ends_mono s (by have := q.isLt; omega)).trans (Plan.ends_le s hs)
    rw [h1]
    have ha := StableHlo.Predicate.toInt_ofNat_small (b.val * 128) (by omega)
    have hc := StableHlo.Predicate.toInt_ofNat_small (Plan.ends s q.val) (by omega)
    show BitVec.ofBool (BitVec.sle _ _) = 1#1 ↔ _
    rw [BitVec.sle_eq_decide, ha, hc]
    by_cases h : Plan.ends s q.val ≤ b.val * 128
    · rw [decide_eq_true (by exact_mod_cast h)]
      exact ⟨fun _ => h, fun _ => rfl⟩
    · rw [decide_eq_false (by exact_mod_cast h)]
      exact ⟨fun hc => absurd hc (by decide), fun hc => absurd hc h⟩

end Words

end Cert.Proof

end
-- ==== Proof.Reads.lean ====
/-
  What the buffers hold when the FFN call starts, as the host's terms over the router call's results.
-/
module

public import proofs.«01_k».proof.Proof.Dispatch
public import proofs.«01_k».proof.Proof.Run

@[expose] public section

set_option maxRecDepth 16384

noncomputable section

namespace Cert.Proof

open Cert.KernelIdeal Cert.KernelIdeal.Gen
open Idealize.ShloMosaic hiding ix0 ix1 ix2 ix3 eq_ix1
open Idealize.ShloMosaic.TcCoe Idealize.ShloMosaic.Routing Idealize.ShloMosaic.ValueIdx

variable {F : FTy → Type} [FloatOps F] (W : Valuation τ sig (Elt F))

theorem read1_v11 : StableHlo.after hostOps1 W main_v11 = shapeCast S4096 (W main_v10_0) shapeCasts_S2048x2_S4096 := by
  after_reads_simp
  rfl

theorem read1_v12 : StableHlo.after hostOps1 W main_v12 = shapeCast S4096 (W main_v10_1) shapeCasts_S2048x2_S4096 := by
  after_reads_simp
  rfl

theorem read1_v19 : StableHlo.after hostOps1 W main_v19 = oneHot (StableHlo.after hostOps1 W main_v11) := by
  after_reads_simp
  rfl

theorem read1_v24 : StableHlo.after hostOps1 W main_v24
    = subi (addi (Host.reduce IntOp.addi (oneHot (StableHlo.after hostOps1 W main_v11)) (constantI S_ 32 0#32) reducesTo_S4096x8_S8_d0 h_S_)
        (broadcastInDim S8 ![] bcast_S_S8 (constantI S_ 32 128#32))) (broadcastInDim S8 ![] bcast_S_S8 (constantI S_ 32 1#32)) := by
  after_reads_simp
  rfl

theorem read1_c2 : StableHlo.after hostOps1 W main_c_2 = constantI S_ 32 128#32 := by
  after_reads_simp

theorem read2_v25 : StableHlo.after hostOps1_1 W main_v25 = pyDiv bcast_S_S8 (W main_v24) (W main_c_2) := by
  after_reads_simp
  rfl

theorem read3_v27 : StableHlo.after hostOps1_2 W main_v27 = muli (W main_v25) (broadcastInDim S8 ![] bcast_S_S8 (constantI S_ 32 128#32)) := by
  after_reads_simp

attribute [local irreducible] Host.reduceWindow in
theorem read4_v28 : StableHlo.after hostOps1_3 W main_v28
    = Host.reduceWindow IntOp.addi ![8] ![1] ![7] ![0] (W main_v27) (broadcastInDim S_ ![] bcast_S_S_ (constantI S_ 32 0#32)) reduceWindows_S8_S8_w8s1p7_0 h_S_ := by
  after_reads_simp
  rfl

theorem read5_v29 : StableHlo.after hostOps1_4 W main_v29 = subi (W main_v28) (W main_v27) := by
  after_reads_simp

attribute [local irreducible] Host.reduceWindow in
theorem read6_v30 : StableHlo.after hostOps1_5 W main_v30
    = Host.reduceWindow IntOp.addi ![4096, 1] ![1, 1] ![4095, 0] ![0, 0] (W main_v19) (broadcastInDim S_ ![] bcast_S_S_ (constantI S_ 32 0#32))
      reduceWindows_S4096x8_S4096x8_w4096s1p4095_0_w1s1p0_0 h_S_ := by
  after_reads_simp
  rfl

theorem read7_v42 : StableHlo.after hostOps1_6 W main_v42
    = addi (Host.gather gather_S8_S4096x1_S4096_n_0_n_n_0_1_1 (W main_v29) (wrapCol 8#32 (W main_v11)))
      (Host.reduce IntOp.addi (muli (subi (W main_v30) (broadcastInDim S4096x8 ![] bcast_S_S4096x8 (constantI S_ 32 1#32))) (W main_v19))
        (constantI S_ 32 0#32) reducesTo_S4096x8_S4096_d1 h_S_) := by
  after_reads_simp
  rfl

theorem read7_v43 : StableHlo.after hostOps1_6 W main_v43 = iotaInDim S4096 32 0 := by
  after_reads_simp

theorem read7_c8 : StableHlo.after hostOps1_6 W main_c_8 = constantI S_ 32 2#32 := by
  after_reads_simp

theorem read8_v44 : StableHlo.after hostOps1_7 W main_v44 = pyDiv bcast_S_S4096 (W main_v43) (W main_c_8) := by
  after_reads_simp
  rfl

/-- Row numbers moved up where negative, as a column. -/
def wrapRows (b : BitVec 32) (v : IVec S4992 32) : IVec S4992x1 32 :=
  broadcastInDim S4992x1 ![0] bcast_S4992_S4992x1_0
    (select (cmpi .slt v (broadcastInDim S4992 ![] bcast_S_S4992 (constantI S_ 32 0#32)))
      (addi v (broadcastInDim S4992 ![] bcast_S_S4992 (constantI S_ 32 b))) v)

theorem read9_v52 : StableHlo.after hostOps1_8 W main_v52
    = Host.scatter scatter_S4992_S4096x1_S4096_n_0_0_1 (fun _ b => b) (broadcastInDim S4992 ![] bcast_S_S4992 (constantI S_ 32 0#32))
      (wrapCol 4992#32 (W main_v42)) (W main_v44) := by
  after_reads_simp
  rfl

theorem read9_v60 : StableHlo.after hostOps1_8 W main_v60
    = Host.scatter scatter_S4992_S4096x1_S4096_n_0_0_1 (fun _ b => b) (broadcastInDim S4992 ![] bcast_S_S4992 (constant (F := F) S_ .f32 0x00000000#32))
      (wrapCol 4992#32 (W main_v42)) (W main_v12) := by
  after_reads_simp
  rfl

theorem read9_v81 : StableHlo.after hostOps1_8 W main_v81
    = Host.gather gather_S2048x1024_S4992x1_S4992x1024_1_0_n_n_0_1_11024 (W main_v0) (wrapRows 2048#32 (StableHlo.after hostOps1_8 W main_v52)) := by
  after_reads_simp
  rfl

theorem read9_v82 : StableHlo.after hostOps1_8 W main_v82 = shapeCast S4992x1 (StableHlo.after hostOps1_8 W main_v60) shapeCasts_S4992_S4992x1 := by
  after_reads_simp
  rfl

variable (m : (ℓ : Loc nD τ sig) → Buf (Elt F) ℓ) (outs : Outs (F := F)) (c : Dev nD)

/-- The slots' experts and weights. -/
abbrev slotSel : IVec S4096 32 := shapeCast S4096 (V2 m outs c main_v10_0) shapeCasts_S2048x2_S4096

theorem V3_v11 : V3 m outs c main_v11 = slotSel m outs c := read1_v11 _

theorem V10_v11 : V8 m outs c main_v11 = slotSel m outs c := by
  rw [V8_of m outs c main_v11 (by decide), V7_of m outs c main_v11 (by decide), V6_of m outs c main_v11 (by decide), V5_of m outs c main_v11 (by decide),
    V4_of m outs c main_v11 (by decide)]
  exact V3_v11 m outs c

theorem V8_v19 : V8 m outs c main_v19 = oneHot (slotSel m outs c) := by
  rw [V8_of m outs c main_v19 (by decide), V7_of m outs c main_v19 (by decide), V6_of m outs c main_v19 (by decide), V5_of m outs c main_v19 (by decide),
    V4_of m outs c main_v19 (by decide), ← V3_v11 m outs c]
  exact read1_v19 _

theorem V7_v19 : V7 m outs c main_v19 = oneHot (slotSel m outs c) :=
  (V8_of m outs c main_v19 (by decide)).symm.trans (V8_v19 m outs c)

theorem V5_v27 : V5 m outs c main_v27 = padded (slotSel m outs c) := by
  refine (read3_v27 _).trans ?_
  unfold padded
  refine congrArg (fun x => muli x _) ((read2_v25 _).trans ?_)
  refine congrArg₂ (pyDiv bcast_S_S8) ((read1_v24 _).trans ?_) (read1_c2 _)
  rw [show StableHlo.after hostOps1 (V2 m outs c) main_v11 = slotSel m outs c from V3_v11 m outs c]

theorem V6_v28 : V6 m outs c main_v28 = endsOf (slotSel m outs c) := by
  refine (read4_v28 _).trans ?_
  unfold endsOf
  rw [← V5_v27 m outs c]

theorem V6_v27 : V6 m outs c main_v27 = padded (slotSel m outs c) := by
  rw [V6_of m outs c main_v27 (by decide)]
  exact V5_v27 m outs c

theorem V10_v28 : V10 m outs c main_v28 = endsOf (slotSel m outs c) := by
  rw [V10_of m outs c main_v28 (by decide), V9_of m outs c main_v28 (by decide), V8_of m outs c main_v28 (by decide), V7_of m outs c main_v28 (by decide)]
  exact V6_v28 m outs c

theorem V8_v29 : V8 m outs c main_v29 = subi (endsOf (slotSel m outs c)) (padded (slotSel m outs c)) := by
  rw [V8_of m outs c main_v29 (by decide), ← V6_v28 m outs c, ← V6_v27 m outs c]
  exact read5_v29 _

theorem V8_v30 : V8 m outs c main_v30 = running (slotSel m outs c) := by
  refine (read6_v30 _).trans ?_
  unfold running
  rw [← V7_v19 m outs c]

theorem V9_v42 : V9 m outs c main_v42 = destOf (slotSel m outs c) := by
  refine (read7_v42 _).trans ?_
  unfold destOf rankOf
  rw [← V8_v29 m outs c, ← V8_v30 m outs c, ← V8_v19 m outs c, ← V10_v11 m outs c]

theorem V10_v42 : V10 m outs c main_v42 = destOf (slotSel m outs c) := by
  rw [V10_of m outs c main_v42 (by decide)]
  exact V9_v42 m outs c

theorem V10_v44 : V10 m outs c main_v44 = tokens :=
  (read8_v44 _).trans (congrArg₂ (pyDiv bcast_S_S4096) (read7_v43 _) (read7_c8 _))

theorem V10_v12 : V10 m outs c main_v12 = shapeCast S4096 (V2 m outs c main_v10_1) shapeCasts_S2048x2_S4096 := by
  rw [V10_of m outs c main_v12 (by decide), V9_of m outs c main_v12 (by decide), V8_of m outs c main_v12 (by decide), V7_of m outs c main_v12 (by decide),
    V6_of m outs c main_v12 (by decide), V5_of m outs c main_v12 (by decide), V4_of m outs c main_v12 (by decide)]
  exact read1_v12 _

/-- The rows' tokens. -/
theorem V11_v52 : V11 m outs c main_v52 = rowToken (destOf (slotSel m outs c)) := by
  refine (read9_v52 _).trans ?_
  unfold rowToken
  rw [← V10_v42 m outs c, ← V10_v44 m outs c]

/-- The rows' weights. -/
theorem V11_v60 : V11 m outs c main_v60
    = Host.scatter scatter_S4992_S4096x1_S4096_n_0_0_1 (fun _ b => b) (broadcastInDim S4992 ![] bcast_S_S4992 (constant (F := F) S_ .f32 0x00000000#32))
      (wrapCol 4992#32 (destOf (slotSel m outs c))) (shapeCast S4096 (V2 m outs c main_v10_1) shapeCasts_S2048x2_S4096) := by
  refine (read9_v60 _).trans ?_
  rw [← V10_v42 m outs c, ← V10_v12 m outs c]

theorem V11_v82 : V11 m outs c main_v82 = shapeCast S4992x1 (V11 m outs c main_v60) shapeCasts_S4992_S4992x1 := read9_v82 _

theorem V10_v0 : V10 m outs c main_v0 = V1 m c main_v0 := by
  rw [V10_of m outs c main_v0 (by decide), V9_of m outs c main_v0 (by decide), V8_of m outs c main_v0 (by decide), V7_of m outs c main_v0 (by decide),
    V6_of m outs c main_v0 (by decide), V5_of m outs c main_v0 (by decide), V4_of m outs c main_v0 (by decide), V3_of m outs c main_v0 (by decide),
    V2_of m outs c main_v0 (by decide)]

/-- The rows' hidden states. -/
theorem V11_v81 : V11 m outs c main_v81
    = Host.gather gather_S2048x1024_S4992x1_S4992x1024_1_0_n_n_0_1_11024 (V1 m c main_v0) (wrapRows 2048#32 (V11 m outs c main_v52)) := by
  refine (read9_v81 _).trans ?_
  rw [← V10_v0 m outs c]

/-- The blocks' experts. -/
theorem V11_v74 : V11 m outs c main_v74 = tableOf (endsOf (slotSel m outs c)) := by
  refine (table_read _).trans ?_
  rw [← V10_v28 m outs c]

end Cert.Proof

end
-- ==== Proof.Weights.lean ====
/-
  The arrays the two calls are given, entry by entry: the tokens, and the eight experts' matrices with the shared expert's
  as the ninth.
-/
module

public import proofs.«01_k».proof.Proof.Run
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

/-- A gate or an up matrix at an expert, the shared one being the ninth. -/
def gateOf (G : FVec Ideal S8x2048x1024 .f32) (S : FVec Ideal S2048x1024 .f32) (e : Fin 9) (j : Fin 2048) (k : Fin 1024) : EReal :=
  if h : e.val < 8 then G (ix3 ⟨e.val, h⟩ j k) else S (ix2 j k)

/-- A down matrix at an expert. -/
def downOf (D : FVec Ideal S8x1024x2048 .f32) (S : FVec Ideal S1024x2048 .f32) (e : Fin 9) (n : Fin 1024) (j : Fin 2048) : EReal :=
  if h : e.val < 8 then D (ix3 ⟨e.val, h⟩ n j) else S (ix2 n j)

theorem gate_read (G : FVec Ideal S8x2048x1024 .f32) (S : FVec Ideal S2048x1024 .f32) (e : Fin 9) (j : Fin 2048) (k : Fin 1024) :
    truncf (F := Ideal) .bf16 (concatenate S9x2048x1024 0 [⟨S8x2048x1024, G⟩, ⟨S1x2048x1024, broadcastInDim S1x2048x1024 ![1, 2] bcast_S2048x1024_S1x2048x1024_1_2 S⟩]
      concatenates_S8x2048x1024_S1x2048x1024_S9x2048x1024_d0) bitsLt_bf16_f32 (ix3 e j k) = (gateOf G S e j k : EReal) := by
  pointwise [gateOf]

theorem down_read (D : FVec Ideal S8x1024x2048 .f32) (S : FVec Ideal S1024x2048 .f32) (e : Fin 9) (n : Fin 1024) (j : Fin 2048) :
    truncf (F := Ideal) .bf16 (concatenate S9x1024x2048 0 [⟨S8x1024x2048, D⟩, ⟨S1x1024x2048, broadcastInDim S1x1024x2048 ![1, 2] bcast_S1024x2048_S1x1024x2048_1_2 S⟩]
      concatenates_S8x1024x2048_S1x1024x2048_S9x1024x2048_d0) bitsLt_bf16_f32 (ix3 e n j) = (downOf D S e n j : EReal) := by
  pointwise [downOf]

variable (m : (ℓ : Loc nD τ sig) → Buf (Elt Ideal) ℓ) (outs : Outs (F := Ideal)) (c : Dev nD)

theorem V1_tok (t : Fin 2048) (k : Fin 1024) : V1 m c main_v0 (ix2 t k) = V0 m c main_arg0 (ix3 0 t k) := by
  have h : V1 m c main_v0 = shapeCast S2048x1024 (V0 m c main_arg0) shapeCasts_S1x2048x1024_S2048x1024 := by
    show StableHlo.after hostOps0 (V0 m c) main_v0 = _
    after_reads_simp
    rfl
  rw [h]
  pointwise []

theorem V1_gate (e : Fin 9) (j : Fin 2048) (k : Fin 1024) : V1 m c main_v3 (ix3 e j k) = gateOf (V0 m c main_arg2) (V0 m c main_arg5) e j k := by
  refine Eq.trans (congrFun ?_ (ix3 e j k)) (gate_read (V0 m c main_arg2) (V0 m c main_arg5) e j k)
  show StableHlo.after hostOps0 (V0 m c) main_v3 = _
  after_reads_simp
  rfl

theorem V1_up (e : Fin 9) (j : Fin 2048) (k : Fin 1024) : V1 m c main_v6 (ix3 e j k) = gateOf (V0 m c main_arg3) (V0 m c main_arg6) e j k := by
  refine Eq.trans (congrFun ?_ (ix3 e j k)) (gate_read (V0 m c main_arg3) (V0 m c main_arg6) e j k)
  show StableHlo.after hostOps0 (V0 m c) main_v6 = _
  after_reads_simp
  rfl

theorem V1_down (e : Fin 9) (n : Fin 1024) (j : Fin 2048) : V1 m c main_v9 (ix3 e n j) = downOf (V0 m c main_arg4) (V0 m c main_arg7) e n j := by
  refine Eq.trans (congrFun ?_ (ix3 e n j)) (down_read (V0 m c main_arg4) (V0 m c main_arg7) e n j)
  show StableHlo.after hostOps0 (V0 m c) main_v9 = _
  after_reads_simp
  rfl

/-- A buffer that neither the router call nor the host's dispatch writes is as the router call found it. -/
theorem V11_V1 (r : Ref sig .tc) (h2 : r ∉ ([main_v10_0, main_v10_1] : List (Ref sig .tc))) (h3 : r ∉ hostOps1_W) (h4 : r ∉ hostOps1_1_W)
    (h5 : r ∉ hostOps1_2_W) (h6 : r ∉ hostOps1_3_W) (h7 : r ∉ hostOps1_4_W) (h8 : r ∉ hostOps1_5_W) (h9 : r ∉ hostOps1_6_W) (h10 : r ∉ hostOps1_7_W)
    (h11 : r ∉ hostOps1_8_W) : V11 m outs c r = V1 m c r := by
  rw [V11_of m outs c r h11, V10_of m outs c r h10, V9_of m outs c r h9, V8_of m outs c r h8, V7_of m outs c r h7, V6_of m outs c r h6,
    V5_of m outs c r h5, V4_of m outs c r h4, V3_of m outs c r h3, V2_of m outs c r h2]

theorem V11_tok (t : Fin 2048) (k : Fin 1024) : V11 m outs c main_v0 (ix2 t k) = V0 m c main_arg0 (ix3 0 t k) :=
  (congrFun (V11_V1 m outs c main_v0 (by decide) (by decide) (by decide) (by decide) (by decide) (by decide) (by decide) (by decide) (by decide) (by decide)) _).trans
    (V1_tok m c t k)

theorem V11_gate (e : Fin 9) (j : Fin 2048) (k : Fin 1024) : V11 m outs c main_v3 (ix3 e j k) = gateOf (V0 m c main_arg2) (V0 m c main_arg5) e j k :=
  (congrFun (V11_V1 m outs c main_v3 (by decide) (by decide) (by decide) (by decide) (by decide) (by decide) (by decide) (by decide) (by decide) (by decide)) _).trans
    (V1_gate m c e j k)

theorem V11_up (e : Fin 9) (j : Fin 2048) (k : Fin 1024) : V11 m outs c main_v6 (ix3 e j k) = gateOf (V0 m c main_arg3) (V0 m c main_arg6) e j k :=
  (congrFun (V11_V1 m outs c main_v6 (by decide) (by decide) (by decide) (by decide) (by decide) (by decide) (by decide) (by decide) (by decide) (by decide)) _).trans
    (V1_up m c e j k)

theorem V11_down (e : Fin 9) (n : Fin 1024) (j : Fin 2048) : V11 m outs c main_v9 (ix3 e n j) = downOf (V0 m c main_arg4) (V0 m c main_arg7) e n j :=
  (congrFun (V11_V1 m outs c main_v9 (by decide) (by decide) (by decide) (by decide) (by decide) (by decide) (by decide) (by decide) (by decide) (by decide)) _).trans
    (V1_down m c e n j)

end Cert.Proof

end
-- ==== Proof.FfnValue.lean ====
/-
  What the FFN call leaves at an entry: the expert's value of the row, times the row's weight.
-/
module

public import proofs.«01_k».proof.Proof.Math
public import proofs.«01_k».proof.Proof.Ffn
public import Idealize.ShloMosaic.Lib.Pointwise
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe

variable (i : grid1.Coords) (x0 x1 : FVec Ideal S128x1024 .f32) (x2 x3 : FVec Ideal S1x2048x1024 .bf16) (x4 : FVec Ideal S1x1024x2048 .bf16)
  (x5 : FVec Ideal S128x1 .f32) (p : Fin 128) (n : Fin 1024)

theorem slt_shared (b : Fin 55) (h : b.val < 16) : Scalar.cmpi .slt (BitVec.ofNat 32 b.val) 16#32 = 1#1 := by
  revert b; decide

theorem slt_routed (b : Fin 55) (h : ¬b.val < 16) : Scalar.cmpi .slt (BitVec.ofNat 32 b.val) 16#32 = 0#1 := by
  revert b; decide

/-- A row of a block: the expert's value of the row, times a weight. -/
theorem block_at (x : FVec Ideal S128x1024 .f32) (wt : FVec Ideal S128x1 .f32)
    (hx : Scalar.select (Scalar.cmpi .slt (BitVec.ofNat 32 (i 0).val) 16#32) x0 x1 = x)
    (hw : Scalar.select (Scalar.cmpi .slt (BitVec.ofNat 32 (i 0).val) 16#32) (broadcast S128x1 (Scalar.ofBits .f32 0x3F800000#32)) x5 = wt) :
    k1_pay1 (F := Ideal) i x0 x1 x2 x3 x4 x5 (ix2 p n)
      = (swiglu (fun k => x (ix2 p k)) (fun j k => x2 (ix3 0 j k)) (fun j k => x3 (ix3 0 j k)) (fun j => x4 (ix3 0 n j)) * wt (ix2 p 0) : EReal) := by
  subst hx hw
  unfold k1_pay1
  simp only [shapeCast_self]
  generalize Scalar.select (Scalar.cmpi .slt (BitVec.ofNat 32 (i 0).val) 16#32) x0 x1 = x
  generalize Scalar.select (Scalar.cmpi .slt (BitVec.ofNat 32 (i 0).val) 16#32) (broadcast S128x1 (Scalar.ofBits .f32 0x3F800000#32)) x5 = wt
  pointwise [swiglu, silu]
  rfl

theorem ffnOf_eq : ffnOf (F := Ideal) i x0 x1 x2 x3 x4 x5 = k1_pay1 (F := Ideal) i x0 x1 x2 x3 x4 x5 := by
  unfold ffnOf
  frame_out

variable {i x0 x1 x2 x3 x4 x5 p n} {X : Fin 1024 → EReal} {G U : Fin 2048 → Fin 1024 → EReal} {D : Fin 2048 → EReal}

/-- A row of a block of the shared expert. -/
theorem ffn_shared (hi : (i 0).val < 16) (h0 : ∀ k, x0 (ix2 p k) = X k) (h2 : ∀ j k, x2 (ix3 0 j k) = G j k) (h3 : ∀ j k, x3 (ix3 0 j k) = U j k)
    (h4 : ∀ j, x4 (ix3 0 n j) = D j) : ffnOf (F := Ideal) i x0 x1 x2 x3 x4 x5 (ix2 p n) = (swiglu X G U D : EReal) := by
  have hone : (broadcast S128x1 (Scalar.ofBits .f32 0x3F800000#32) : FVec Ideal S128x1 .f32) (ix2 p 0) = (1 : EReal) := by
    pointwise []
  rw [ffnOf_eq, block_at i x0 x1 x2 x3 x4 x5 p n _ _ rfl rfl, slt_shared (i 0) hi]
  show swiglu (fun k => x0 (ix2 p k)) _ _ _ * (broadcast S128x1 (Scalar.ofBits .f32 0x3F800000#32) : FVec Ideal S128x1 .f32) (ix2 p 0) = _
  rw [hone, mul_one]
  simp only [h0, h2, h3, h4]

/-- A row of a block of a routed expert. -/
theorem ffn_routed (hi : ¬(i 0).val < 16) (h1 : ∀ k, x1 (ix2 p k) = X k) (h2 : ∀ j k, x2 (ix3 0 j k) = G j k) (h3 : ∀ j k, x3 (ix3 0 j k) = U j k)
    (h4 : ∀ j, x4 (ix3 0 n j) = D j) {wt : EReal} (h5 : x5 (ix2 p 0) = wt) :
    ffnOf (F := Ideal) i x0 x1 x2 x3 x4 x5 (ix2 p n) = (swiglu X G U D * wt : EReal) := by
  rw [ffnOf_eq, block_at i x0 x1 x2 x3 x4 x5 p n _ _ rfl rfl, slt_routed (i 0) hi]
  show swiglu (fun k => x1 (ix2 p k)) _ _ _ * x5 (ix2 p 0) = _
  rw [h5]
  simp only [h1, h2, h3, h4]

/-! ## Where the blocks lie -/

theorem tr0 : ∀ t : Fin grid1.N, cc1_transform_0 (grid1.coords t) = ![min t.val 15, 0] := by decide +kernel
theorem tr1 : ∀ t : Fin grid1.N, cc1_transform_1 (grid1.coords t) = ![t.val - 16, 0] := by decide +kernel
theorem tr5 : ∀ t : Fin grid1.N, cc1_transform_5 (grid1.coords t) = ![t.val - 16, 0] := by decide +kernel
theorem tr6 : ∀ t : Fin grid1.N, cc1_transform_6 (grid1.coords t) = ![t.val, 0] := by decide +kernel

variable (V : (c : Dev nD) → Valuation τ sig (Elt Ideal)) (a : (pcfg1 (F := Ideal)).Adm) (c : Dev nD)

theorem blk1_0 (t : Fin grid1.N) (p : Fin 128) (k : Fin 1024) (r : Fin 2048) (hr : r.val = min t.val 15 * 128 + p.val) :
    blk1 V a c 0 t (ix2 p k) = V c main_v0 (ix2 r k) := by
  unfold blk1
  refine congrArg (V c main_v0) (funext fun b => Fin.ext ?_)
  match b with
  | ⟨0, _⟩ =>
    blk_simp
    exact (congrArg (· * 128 + p.val) (congrFun (tr0 t) 0)).trans hr.symm
  | ⟨1, _⟩ =>
    blk_simp
    exact (congrArg (· * 1024 + k.val) (congrFun (tr0 t) 1)).trans (by show 0 * 1024 + k.val = k.val; omega)

theorem blk1_1 (t : Fin grid1.N) (p : Fin 128) (k : Fin 1024) (r : Fin 4992) (hr : r.val = (t.val - 16) * 128 + p.val) :
    blk1 V a c 1 t (ix2 p k) = V c main_v81 (ix2 r k) := by
  unfold blk1
  refine congrArg (V c main_v81) (funext fun b => Fin.ext ?_)
  match b with
  | ⟨0, _⟩ =>
    blk_simp
    exact (congrArg (· * 128 + p.val) (congrFun (tr1 t) 0)).trans hr.symm
  | ⟨1, _⟩ =>
    blk_simp
    exact (congrArg (· * 1024 + k.val) (congrFun (tr1 t) 1)).trans (by show 0 * 1024 + k.val = k.val; omega)

theorem blk1_5 (t : Fin grid1.N) (p : Fin 128) (r : Fin 4992) (hr : r.val = (t.val - 16) * 128 + p.val) :
    blk1 V a c 5 t (ix2 p 0) = V c main_v82 (ix2 r 0) := by
  unfold blk1
  refine congrArg (V c main_v82) (funext fun b => Fin.ext ?_)
  match b with
  | ⟨0, _⟩ =>
    blk_simp
    exact (congrArg (· * 128 + p.val) (congrFun (tr5 t) 0)).trans hr.symm
  | ⟨1, _⟩ =>
    blk_simp
    exact congrFun (tr5 t) 1

/-- The entry of the table that a point's index maps read. -/
theorem table_entry (t : Fin grid1.N) : (a.1.at 0 (Rect.unit (s := S55) ![(Scalar.indexCast (BitVec.ofNat 32 (grid1.coords t 0).val)).toNat] S1.size (k1_off1_inb (grid1.coords t))) numel1_S1 : BitVec 32)
    = a.1 0 (ValueIdx.ix1 (t : Fin 55)) := by
  refine congrArg (a.1 0) (funext fun b => Fin.ext ?_)
  have h : ∀ t : Fin grid1.N, (Scalar.indexCast (BitVec.ofNat 32 (grid1.coords t 0).val)).toNat = t.val := by decide +kernel
  match b with
  | ⟨0, _⟩ =>
    show (Scalar.indexCast (BitVec.ofNat 32 (grid1.coords t 0).val)).toNat + 1 * 0 = t.val
    exact h t
  | ⟨n + 1, hn⟩ => exact absurd hn (by show ¬n + 1 < 1; omega)

theorem word_entry (t : Fin grid1.N) (e : Fin 9) (he : a.1 0 (ValueIdx.ix1 (t : Fin 55)) = BitVec.ofNat 32 e.val) :
    (a.1.at 0 (Rect.unit (s := S55) ![(Scalar.indexCast (BitVec.ofNat 32 (grid1.coords t 0).val)).toNat] S1.size (k1_off1_inb (grid1.coords t))) numel1_S1 : BitVec 32).toNat + 0
    = e.val := by
  rw [table_entry a t, he, BitVec.toNat_ofNat]
  have := e.isLt
  omega

theorem blk1_2 (t : Fin grid1.N) (j : Fin 2048) (k : Fin 1024) (e : Fin 9) (he : a.1 0 (ValueIdx.ix1 (t : Fin 55)) = BitVec.ofNat 32 e.val) :
    blk1 V a c 2 t (ix3 0 j k) = V c main_v3 (ix3 e j k) := by
  unfold blk1
  refine congrArg (V c main_v3) (funext fun b => Fin.ext ?_)
  match b with
  | ⟨0, _⟩ =>
    blk_simp
    exact word_entry a t e he
  | ⟨1, _⟩ =>
    blk_simp
    exact (by show 0 * 2048 + j.val = j.val; omega)
  | ⟨2, _⟩ =>
    blk_simp
    exact (by show 0 * 1024 + k.val = k.val; omega)

theorem blk1_3 (t : Fin grid1.N) (j : Fin 2048) (k : Fin 1024) (e : Fin 9) (he : a.1 0 (ValueIdx.ix1 (t : Fin 55)) = BitVec.ofNat 32 e.val) :
    blk1 V a c 3 t (ix3 0 j k) = V c main_v6 (ix3 e j k) := by
  unfold blk1
  refine congrArg (V c main_v6) (funext fun b => Fin.ext ?_)
  match b with
  | ⟨0, _⟩ =>
    blk_simp
    exact word_entry a t e he
  | ⟨1, _⟩ =>
    blk_simp
    exact (by show 0 * 2048 + j.val = j.val; omega)
  | ⟨2, _⟩ =>
    blk_simp
    exact (by show 0 * 1024 + k.val = k.val; omega)

theorem blk1_4 (t : Fin grid1.N) (n : Fin 1024) (j : Fin 2048) (e : Fin 9) (he : a.1 0 (ValueIdx.ix1 (t : Fin 55)) = BitVec.ofNat 32 e.val) :
    blk1 V a c 4 t (ix3 0 n j) = V c main_v9 (ix3 e n j) := by
  unfold blk1
  refine congrArg (V c main_v9) (funext fun b => Fin.ext ?_)
  match b with
  | ⟨0, _⟩ =>
    blk_simp
    exact word_entry a t e he
  | ⟨1, _⟩ =>
    blk_simp
    exact (by show 0 * 1024 + n.val = n.val; omega)
  | ⟨2, _⟩ =>
    blk_simp
    exact (by show 0 * 2048 + j.val = j.val; omega)

/-! ## The result's rows -/

/-- Every point writes its block back. -/
theorem flush6 : ∀ t : Fin grid1.N, Pipeline.Window.flushOf grid1 true cc1_transform_6 t = true := by decide +kernel

/-- A block of the result, read off its array. -/
theorem read6 (f : S7040x1024.Idx → EReal) (t : Fin grid1.N) (p : Fin 128) (n : Fin 1024) (r : Fin 7040) (hr : r.val = t.val * 128 + p.val) :
    (((cfg1 a).win 6).blk t).view.read (Elt Ideal) f (ix2 p n) = f (ix2 r n) := by
  refine congrArg f (funext fun b => Fin.ext ?_)
  match b with
  | ⟨0, _⟩ =>
    blk_simp
    exact (congrArg (· * 128 + p.val) (congrFun (tr6 t) 0)).trans hr.symm
  | ⟨1, _⟩ =>
    blk_simp
    exact (congrArg (· * 1024 + n.val) (congrFun (tr6 t) 1)).trans (by show 0 * 1024 + n.val = n.val; omega)

theorem disj6 : ∀ t t' : Fin (cfg1 a).N, ((cfg1 a).win 6).flush t = true → ((cfg1 a).win 6).flush t' = true → t ≠ t' →
    Disjoint (((cfg1 a).win 6).blk t).view.set (((cfg1 a).win 6).blk t').view.set :=
  ((cfg1 a).win 6).hdisj_of_index_inj fun t t' _ _ he =>
    Fin.ext ((congrFun (tr6 t) 0).symm.trans ((congrFun he ⟨0, Nat.two_pos⟩).trans (congrFun (tr6 t') 0)))

theorem flushed6 (t : Fin grid1.N) : (dat1 V a c).flushed 6 t = res1 V a c t :=
  after1_6 V a c t

/-- The call's array. -/
def ysOf : S7040x1024.Idx → EReal := (dat1 V a c).arrAt 6 (cfg1 a).N

theorem ys_read (t : Fin grid1.N) : (((cfg1 a).win 6).blk t).view.read (Elt Ideal) (ysOf V a c) = res1 V a c t :=
  ((dat1 V a c).read_blk_arrAt_eq_flushed 6 (disj6 a) (cfg1 a).N t t.isLt (flush6 t)).trans (flushed6 V a c t)

/-- The call's array at a row: what the row's block holds there. -/
theorem ys_at (t : Fin grid1.N) (p : Fin 128) (n : Fin 1024) (r : Fin 7040) (hr : r.val = t.val * 128 + p.val) :
    ysOf V a c (ix2 r n) = res1 V a c t (ix2 p n) :=
  (read6 a (ysOf V a c) t p n r hr).symm.trans (congrFun (ys_read V a c t) (ix2 p n))

theorem coord1 : ∀ t : Fin grid1.N, (grid1.coords t 0).val = t.val := by decide +kernel

/-- The rows of the shared expert. -/
theorem ys_shared (t : Fin grid1.N) (ht : t.val < 16) (p : Fin 128) (n : Fin 1024) (r : Fin 7040) (r' : Fin 2048) (hr : r.val = t.val * 128 + p.val)
    (hr' : r'.val = r.val) (he : a.1 0 (ValueIdx.ix1 (t : Fin 55)) = 8#32) :
    ysOf V a c (ix2 r n)
      = (swiglu (fun k => V c main_v0 (ix2 r' k)) (fun j k => V c main_v3 (ix3 8 j k)) (fun j k => V c main_v6 (ix3 8 j k)) (fun j => V c main_v9 (ix3 8 n j)) : EReal) :=
  (ys_at V a c t p n r hr).trans (ffn_shared ((coord1 t).trans_lt ht) (fun k => blk1_0 V a c t p k r' (by omega)) (fun j k => blk1_2 V a c t j k 8 he)
    (fun j k => blk1_3 V a c t j k 8 he) (fun j => blk1_4 V a c t n j 8 he))

/-- The rows of the routed experts. -/
theorem ys_routed (t : Fin grid1.N) (ht : 16 ≤ t.val) (p : Fin 128) (n : Fin 1024) (r : Fin 7040) (r' : Fin 4992) (hr : r.val = t.val * 128 + p.val)
    (hr' : r'.val + 2048 = r.val) (e : Fin 9) (he : a.1 0 (ValueIdx.ix1 (t : Fin 55)) = BitVec.ofNat 32 e.val) :
    ysOf V a c (ix2 r n)
      = (swiglu (fun k => V c main_v81 (ix2 r' k)) (fun j k => V c main_v3 (ix3 e j k)) (fun j k => V c main_v6 (ix3 e j k)) (fun j => V c main_v9 (ix3 e n j))
        * V c main_v82 (ix2 r' 0) : EReal) :=
  (ys_at V a c t p n r hr).trans (ffn_routed (by rw [coord1 t]; omega) (fun k => blk1_1 V a c t p k r' (by omega)) (fun j k => blk1_2 V a c t j k e he)
    (fun j k => blk1_3 V a c t j k e he) (fun j => blk1_4 V a c t n j e he) (blk1_5 V a c t p r' (by omega)))

end Cert.Proof

end
-- ==== Proof.Tail.lean ====
/-
  The host's tail: what a token's row of the result is, from the FFN call's rows.
-/
module

public import proofs.«01_k».proof.Proof.Reads
public import Idealize.ShloMosaic.Lib.Routing.OpsPair
public import Idealize.ShloMosaic.Lib.Pointwise.Tactic

@[expose] public section

set_option maxRecDepth 16384

noncomputable section

namespace Cert.Proof

open Cert.KernelIdeal Cert.KernelIdeal.Gen
open Idealize.ShloMosaic hiding ix0 ix1 ix2 ix3 eq_ix1 eq_ix2
open Idealize.ShloMosaic.TcCoe Idealize.ShloMosaic.Routing Idealize.ShloMosaic.ValueIdx

/-- The result as the tail computes it from the call's rows and the rows' tokens. -/
def tail (y : FVec Ideal S7040x1024 .f32) (q : IVec S4992 32) : FVec Ideal S1x2048x1024 .f32 :=
  shapeCast S1x2048x1024
    (addf (extractStridedSlice S2048x1024 ![0, 0] y slices_S7040x1024_S2048x1024_0_0)
      (Host.scatterAdd scatter_S2048x1024_S4992x1_S4992x1024_1_0_0_1
        (broadcastInDim S2048x1024 ![] bcast_S_S2048x1024 (constant (F := Ideal) S_ .f32 0x00000000#32))
        (wrapRows 2048#32 q)
        (extractStridedSlice S4992x1024 ![2048, 0] y slices_S7040x1024_S4992x1024_2048_0)))
    shapeCasts_S2048x1024_S1x2048x1024

theorem read_tail (W : Valuation τ sig (Elt Ideal)) : StableHlo.after hostOps2 W main_v95 = tail (W main_v83) (W main_v52) := by
  after_reads_simp
  rfl

theorem read_cst (W : Valuation τ sig (Elt Ideal)) : StableHlo.after hostOps2 W main_cst_23 = constant (F := Ideal) S_ .f32 0x00000000#32 := by
  after_reads_simp

/-- The wrap leaves a token's word as it is. -/
theorem wrapRows_at (b : BitVec 32) (v : IVec S4992 32) (r : Fin 4992) {n : ℕ} (hn : n < 2 ^ 31) (hv : v (ix1 r) = BitVec.ofNat 32 n) :
    wrapRows b v (ix2 r (0 : Fin 1)) = BitVec.ofNat 32 n := by
  refine (bcCol bcast_S4992_S4992x1_0 _ r).trans ?_
  show Scalar.select (IntOp.cmpi .slt (v (ix1 r)) (broadcastInDim S4992 ![] bcast_S_S4992 (constantI S_ 32 0#32) (ix1 r))) _ (v (ix1 r)) = _
  rw [bc0, hv]
  exact wrap_of_lt _ _ (by rw [BitVec.toNat_ofNat, Nat.mod_eq_of_lt (by omega)]; exact hn)

/-- Where the tail's sum puts an entry. -/
theorem tail_lands (idx : IVec S4992x1 32) (r : Fin 4992) (n' : Fin 1024) (t : Fin 2048) (n : Fin 1024) {k : ℕ} (hk : k < 2 ^ 31)
    (hi : idx (ix2 r (0 : Fin 1)) = BitVec.ofNat 32 k) :
    scatter_S2048x1024_S4992x1_S4992x1024_1_0_0_1.resultIdx? (ix2 r n') idx = some (ix2 t n) ↔ k = t.val ∧ n' = n := by
  rw [resultIdx?_ix2]
  have hw0 : scatter_S2048x1024_S4992x1_S4992x1024_1_0_0_1.window (ix2 r n') 0 = 0 := rfl
  have hw1 : scatter_S2048x1024_S4992x1_S4992x1024_1_0_0_1.window (ix2 r n') 1 = n'.val := rfl
  have hs1 : scatter_S2048x1024_S4992x1_S4992x1024_1_0_0_1.start (ix2 r n') idx 1 = 0 := rfl
  have hs0 : scatter_S2048x1024_S4992x1_S4992x1024_1_0_0_1.start (ix2 r n') idx 0 = (idx (ix2 r (0 : Fin 1))).toInt := by
    unfold ScatterDims.start
    rw [dif_pos (by decide)]
    refine congrArg (fun i => (idx i).toInt) (funext fun a => Fin.ext ?_)
    match a with
    | ⟨0, _⟩ => rfl
    | ⟨1, _⟩ => rfl
  rw [hw0, hw1, hs0, hs1, hi, StableHlo.Predicate.toInt_ofNat_small _ hk, Fin.ext_iff]
  omega

/-- A sum over the entries of a matrix that lie in one column of the rows that `P` picks. -/
theorem sum_column {A B : ℕ} (f : (shape2 A B).Idx → EReal) (P : Fin A → Prop) [DecidablePred P] (n : Fin B) (Q : (shape2 A B).Idx → Prop) [DecidablePred Q]
    (hQ : ∀ r n', Q (ix2 r n') ↔ P r ∧ n' = n) :
    ∑ j ∈ Finset.univ.filter Q, f j = ∑ r : Fin A, if P r then f (ix2 r n) else 0 := by
  have hP : ∀ j, Q j → P (j 0 : Fin A) ∧ (ix2 (j 0 : Fin A) n : (shape2 A B).Idx) = j := fun j hj => by
    obtain ⟨r, n', rfl⟩ : ∃ (r : Fin A) (n' : Fin B), j = ix2 r n' := ⟨j 0, j 1, eq_ix2 j⟩
    obtain ⟨h1, rfl⟩ := (hQ r n').1 hj
    exact ⟨h1, rfl⟩
  rw [← Finset.sum_filter]
  refine Finset.sum_bij' (fun j _ => (j 0 : Fin A)) (fun r _ => ix2 r n) ?_ ?_ ?_ ?_ ?_
  · exact fun j hj => Finset.mem_filter.2 ⟨Finset.mem_univ _, (hP j (Finset.mem_filter.1 hj).2).1⟩
  · exact fun r hr => Finset.mem_filter.2 ⟨Finset.mem_univ _, (hQ r n).2 ⟨(Finset.mem_filter.1 hr).2, rfl⟩⟩
  · exact fun j hj => (hP j (Finset.mem_filter.1 hj).2).2
  · exact fun r _ => rfl
  · exact fun j hj => congrArg f (hP j (Finset.mem_filter.1 hj).2).2.symm

/-- A token's entry of the result: its row of the shared block, and the sum of its rows of the routed blocks. -/
theorem tail_at (y : FVec Ideal S7040x1024 .f32) (q : IVec S4992 32) (τ' : Fin 4992 → ℕ) (hτ : ∀ r, τ' r < 2 ^ 31) (hq : ∀ r, q (ix1 r) = BitVec.ofNat 32 (τ' r))
    (t : Fin 2048) (n : Fin 1024) :
    tail y q (ix3 0 t n) = (y (ix2 ⟨t.val, by omega⟩ n) + ∑ r : Fin 4992, if τ' r = t.val then y (ix2 ⟨r.val + 2048, by omega⟩ n) else 0 : EReal) := by
  have h0 : tail y q (ix3 0 t n)
      = (extractStridedSlice S2048x1024 ![0, 0] y slices_S7040x1024_S2048x1024_0_0 (ix2 t n)
        + Host.scatterAdd scatter_S2048x1024_S4992x1_S4992x1024_1_0_0_1
        (broadcastInDim S2048x1024 ![] bcast_S_S2048x1024 (constant (F := Ideal) S_ .f32 0x00000000#32))
        (wrapRows 2048#32 q)
        (extractStridedSlice S4992x1024 ![2048, 0] y slices_S7040x1024_S4992x1024_2048_0) (ix2 t n) : EReal) := by
    refine shapeCast_apply _ _ _ (ix2 t n) ?_
    rw [Shape.rowMajor_val_two, Shape.rowMajor_val_three]
    show t.val * 1024 + n.val = (0 * 2048 + t.val) * 1024 + n.val
    omega
  rw [h0]
  have h1 : extractStridedSlice S2048x1024 ![0, 0] y slices_S7040x1024_S2048x1024_0_0 (ix2 t n) = y (ix2 ⟨t.val, by omega⟩ n) :=
    congrArg y (funext fun a => Fin.ext (match a with
      | ⟨0, _⟩ => Nat.zero_add _
      | ⟨1, _⟩ => Nat.zero_add _))
  have h2 : ∀ r : Fin 4992, extractStridedSlice S4992x1024 ![2048, 0] y slices_S7040x1024_S4992x1024_2048_0 (ix2 r n) = y (ix2 ⟨r.val + 2048, by omega⟩ n) :=
    fun r => congrArg y (funext fun a => Fin.ext (match a with
      | ⟨0, _⟩ => Nat.add_comm _ _
      | ⟨1, _⟩ => Nat.zero_add _))
  have h3 : (broadcastInDim S2048x1024 ![] bcast_S_S2048x1024 (constant (F := Ideal) S_ .f32 0x00000000#32)) (ix2 t n) = (0 : EReal) :=
    (bc0 _ _ _).trans (Idealize.ShloMosaic.Ideal.ofBits_zero .f32)
  have h4 : Host.scatterAdd scatter_S2048x1024_S4992x1_S4992x1024_1_0_0_1
        (broadcastInDim S2048x1024 ![] bcast_S_S2048x1024 (constant (F := Ideal) S_ .f32 0x00000000#32))
        (wrapRows 2048#32 q)
        (extractStridedSlice S4992x1024 ![2048, 0] y slices_S7040x1024_S4992x1024_2048_0) (ix2 t n)
      = ((broadcastInDim S2048x1024 ![] bcast_S_S2048x1024 (constant (F := Ideal) S_ .f32 0x00000000#32)) (ix2 t n)
        + ∑ j ∈ Finset.univ.filter (fun j => scatter_S2048x1024_S4992x1_S4992x1024_1_0_0_1.resultIdx? j (wrapRows 2048#32 q) = some (ix2 t n)),
          extractStridedSlice S4992x1024 ![2048, 0] y slices_S7040x1024_S4992x1024_2048_0 j : EReal) := rfl
  rw [h1, h4, h3, zero_add]
  refine congrArg (y (ix2 ⟨t.val, by omega⟩ n) + ·) ?_
  refine (sum_column (A := 4992) (B := 1024) _ (fun r => τ' r = t.val) n _ fun r n' => tail_lands _ r n' t n (hτ r) (wrapRows_at _ q r (hτ r) (hq r))).trans ?_
  exact Finset.sum_congr rfl fun r _ => by rw [h2 r]

end Cert.Proof

end
-- ==== Proof.Rows.lean ====
/-
  The rows of the FFN call: what each token's rows hold, given the router's choices and weights.
-/
module

public import proofs.«01_k».proof.Proof.Reads
public import proofs.«01_k».proof.Proof.Weights
public import proofs.«01_k».proof.Proof.FfnValue
public import proofs.«01_k».proof.Proof.Tail
public import proofs.«01_k».proof.Proof.Sum

@[expose] public section

set_option maxRecDepth 16384

noncomputable section

namespace Cert.Proof

open Cert.KernelIdeal Cert.KernelIdeal.Gen
open Idealize.ShloMosaic hiding ix0 ix1 ix2 ix3 eq_ix1 eq_ix2
open Idealize.ShloMosaic.TcCoe Idealize.ShloMosaic.Routing Idealize.ShloMosaic.ValueIdx

/-- The expert of a slot: slot `2 t + k` is token `t`'s choice `k`. -/
def slotExpert (sel : Fin 2048 → Fin 2 → Fin 8) (j : ℕ) : ℕ :=
  if h : j < 4096 then (sel ⟨j / 2, by omega⟩ ⟨j % 2, by omega⟩).val else 0

theorem slotExpert_lt (sel : Fin 2048 → Fin 2 → Fin 8) (j : ℕ) : slotExpert sel j < 8 := by
  unfold slotExpert
  split
  · exact Fin.isLt _
  · omega

/-- A token's choice as a slot. -/
def slotOf (t : Fin 2048) (k : Fin 2) : Fin 4096 := ⟨2 * t.val + k.val, by omega⟩

theorem slotExpert_of (sel : Fin 2048 → Fin 2 → Fin 8) (t : Fin 2048) (k : Fin 2) : slotExpert sel (slotOf t k).val = (sel t k).val := by
  unfold slotExpert slotOf
  rw [dif_pos (by show 2 * t.val + k.val < 4096; omega)]
  have h1 : (2 * t.val + k.val) / 2 = t.val := by omega
  have h2 : (2 * t.val + k.val) % 2 = k.val := by omega
  simp only [h1, h2]

/-- The row of a token's choice. -/
def rowOf (sel : Fin 2048 → Fin 2 → Fin 8) (t : Fin 2048) (k : Fin 2) : Fin 4992 :=
  ⟨Plan.dest (slotExpert sel) (slotOf t k).val, Plan.dest_lt _ (fun j _ => slotExpert_lt sel j) (slotOf t k).isLt⟩

theorem rowOf_inj (sel : Fin 2048 → Fin 2 → Fin 8) {t t' : Fin 2048} {k k' : Fin 2} (h : rowOf sel t k = rowOf sel t' k') : t = t' ∧ k = k' := by
  have h1 := Plan.dest_inj _ (slotOf t k).isLt (slotOf t' k').isLt (congrArg Fin.val h)
  unfold slotOf at h1
  have h2 : 2 * t.val + k.val = 2 * t'.val + k'.val := h1
  exact ⟨Fin.ext (by omega), Fin.ext (by omega)⟩

/-- Every routed block names one of the eight experts. -/
theorem expert_some (ends : IVec S8 32) (b : Fin 39) : ∃ e : Fin 8, blockExpert ends (ix1 b) = BitVec.ofNat 32 e.val := by
  classical
  refine ⟨⟨min (Nat.count (fun q => ∃ h : q < 8, blockPast ends (ix2 b ⟨q, h⟩) = 1#1) 8) 7, by omega⟩, ?_⟩
  exact blockExpert_at ends _ b fun q => ⟨fun h => ⟨q.isLt, h⟩, fun h => h.2⟩

variable (m : (ℓ : Loc nD τ sig) → Buf (Elt Ideal) ℓ) (c : Dev nD)

theorem table_is (t : Fin 55) : (adm m 1).1 0 (ix1 t) = tableOf (endsOf (slotSel m (outs m) c)) (ix1 t) := by
  obtain rfl : c = 0 := Subsingleton.elim _ _
  exact congrFun (V11_v74 m (outs m) 0) (ix1 t)

theorem ys_is : V12 m (outs m) c main_v83 = ysOf (V11 m (outs0 m)) (adm m 1) c := V12_ys m c

/-- The hidden states of a row, those of its token. -/
theorem row_states (r : Fin 4992) (t : Fin 2048) (ht : V11 m (outs m) c main_v52 (ix1 r) = BitVec.ofNat 32 t.val) (k : Fin 1024) :
    V11 m (outs m) c main_v81 (ix2 r k) = V0 m c main_arg0 (ix3 0 t k) :=
  (congrFun (V11_v81 m (outs m) c) (ix2 r k)).trans
    ((gather_row (nb := 2048) (B := 1024) (n := 4992) gather_S2048x1024_S4992x1_S4992x1024_1_0_n_n_0_1_11024 rfl rfl rfl rfl rfl (V1 m c main_v0) _ r k t
      (wrapRows_at _ _ r (by have := t.isLt; omega) ht) (by decide)).trans (V1_tok m c t k))

/-- The weight of a row. -/
theorem row_weight (r : Fin 4992) : V11 m (outs m) c main_v82 (ix2 r (0 : Fin 1)) = V11 m (outs m) c main_v60 (ix1 r) := by
  refine (congrFun (V11_v82 m (outs m) c) (ix2 r (0 : Fin 1))).trans ?_
  refine shapeCast_apply _ _ _ (ix1 r) ?_
  rw [Shape.rowMajor_val_two, Shape.rowMajor_val_one]
  show r.val = r.val * 1 + 0
  omega

/-- A token's row of the result as expert `e` computes it. -/
def ffnAt (t : Fin 2048) (n : Fin 1024) (e : Fin 9) : EReal :=
  swiglu (fun k => V0 m c main_arg0 (ix3 0 t k)) (gateOf (V0 m c main_arg2) (V0 m c main_arg5) e) (gateOf (V0 m c main_arg3) (V0 m c main_arg6) e)
    (downOf (V0 m c main_arg4) (V0 m c main_arg7) e n)

theorem shared_row (t : Fin 2048) (n : Fin 1024) : V12 m (outs m) c main_v83 (ix2 (⟨t.val, by omega⟩ : Fin 7040) n) = ffnAt m c t n 8 := by
  have h := ys_shared (V11 m (outs0 m)) (adm m 1) c (⟨t.val / 128, by show t.val / 128 < 55; omega⟩ : Fin 55) (by show t.val / 128 < 16; omega) ⟨t.val % 128, by omega⟩ n
    ⟨t.val, by omega⟩ t (by show t.val = t.val / 128 * 128 + t.val % 128; omega) rfl
    ((table_is m c _).trans (table_shared _ _ (by show t.val / 128 < 16; omega)))
  refine (congrFun (ys_is m c) _).trans (h.trans ?_)
  exact swiglu_congr (V11_tok m (outs0 m) c t) (V11_gate m (outs0 m) c 8) (V11_up m (outs0 m) c 8) (V11_down m (outs0 m) c 8 n)

/-- A routed row: the feed-forward block of the row's token by the row's expert, times the row's weight. -/
theorem routed_row (r : Fin 4992) (n : Fin 1024) (t : Fin 2048) (ht : V11 m (outs m) c main_v52 (ix1 r) = BitVec.ofNat 32 t.val) (e : Fin 8)
    (he : blockExpert (endsOf (slotSel m (outs m) c)) (ix1 (⟨r.val / 128, by omega⟩ : Fin 39)) = BitVec.ofNat 32 e.val) :
    V12 m (outs m) c main_v83 (ix2 (⟨r.val + 2048, by omega⟩ : Fin 7040) n) = ffnAt m c t n e.castSucc * (V11 m (outs m) c main_v60 (ix1 r) : EReal) := by
  have h := ys_routed (V11 m (outs0 m)) (adm m 1) c (⟨r.val / 128 + 16, by show r.val / 128 + 16 < 55; omega⟩ : Fin 55) (by show 16 ≤ r.val / 128 + 16; omega)
    ⟨r.val % 128, by omega⟩ n ⟨r.val + 2048, by omega⟩ r (by show r.val + 2048 = (r.val / 128 + 16) * 128 + r.val % 128; omega) rfl e.castSucc
    ((table_is m c _).trans ((table_routed _ _ ⟨r.val / 128, by omega⟩ rfl).trans he))
  refine (congrFun (ys_is m c) _).trans (h.trans ?_)
  exact Ideal.mul_congr (swiglu_congr (row_states m c r t ht) (V11_gate m (outs0 m) c e.castSucc) (V11_up m (outs0 m) c e.castSucc)
    (V11_down m (outs0 m) c e.castSucc n)) (row_weight m c r)

section Choices

variable {sel : Fin 2048 → Fin 2 → Fin 8} {wgt : Fin 2048 → Fin 2 → EReal}
  (hsel : ∀ t k, V2 m (outs m) c main_v10_0 (ix2 t k) = BitVec.ofNat 32 (sel t k).val)
  (hwgt : ∀ t k, V2 m (outs m) c main_v10_1 (ix2 t k) = wgt t k)

include hsel

theorem slot_word (j : Fin 4096) : slotSel m (outs m) c (ix1 j) = BitVec.ofNat 32 (slotExpert sel j.val) := by
  refine (cast21 (V2 m (outs m) c main_v10_0) shapeCasts_S2048x2_S4096 ⟨j.val / 2, by omega⟩ ⟨j.val % 2, by omega⟩ j
    (by show j.val = j.val / 2 * 2 + j.val % 2; omega)).trans ?_
  rw [hsel]
  unfold slotExpert
  rw [dif_pos j.isLt]

theorem token_hit (t : Fin 2048) (k : Fin 2) : V11 m (outs m) c main_v52 (ix1 (rowOf sel t k)) = BitVec.ofNat 32 t.val := by
  refine (congrFun (V11_v52 m (outs m) c) _).trans ?_
  refine (scatter_hit (slot_word m c hsel) (fun j _ => slotExpert_lt sel j) _ tokens (slotOf t k)).trans ?_
  rw [tokens_at]
  refine congrArg (BitVec.ofNat 32) ?_
  show (2 * t.val + k.val) / 2 = t.val
  omega

theorem row_cases (r : Fin 4992) : (∃ t k, r = rowOf sel t k) ∨ ∀ j : Fin 4096, Plan.dest (slotExpert sel) j.val ≠ r.val := by
  by_cases h : ∃ j : Fin 4096, Plan.dest (slotExpert sel) j.val = r.val
  · obtain ⟨j, hj⟩ := h
    refine Or.inl ⟨⟨j.val / 2, by omega⟩, ⟨j.val % 2, by omega⟩, Fin.ext (hj.symm.trans ?_)⟩
    refine congrArg (Plan.dest (slotExpert sel)) ?_
    show j.val = 2 * (j.val / 2) + j.val % 2
    omega
  · exact Or.inr fun j hj => h ⟨j, hj⟩

theorem token_miss (r : Fin 4992) (hr : ∀ j : Fin 4096, Plan.dest (slotExpert sel) j.val ≠ r.val) : V11 m (outs m) c main_v52 (ix1 r) = BitVec.ofNat 32 0 :=
  (congrFun (V11_v52 m (outs m) c) _).trans
    ((scatter_miss (slot_word m c hsel) (fun j _ => slotExpert_lt sel j) _ tokens r hr).trans (bc0 bcast_S_S4992 _ _))

theorem weight_miss (r : Fin 4992) (hr : ∀ j : Fin 4096, Plan.dest (slotExpert sel) j.val ≠ r.val) : V11 m (outs m) c main_v60 (ix1 r) = (0 : EReal) :=
  (congrFun (V11_v60 m (outs m) c) _).trans
    ((scatter_miss (slot_word m c hsel) (fun j _ => slotExpert_lt sel j) _ _ r hr).trans ((bc0 bcast_S_S4992 _ _).trans (Idealize.ShloMosaic.Ideal.ofBits_zero .f32)))

/-- A row that no slot has is zero. -/
theorem miss_row (r : Fin 4992) (n : Fin 1024) (hr : ∀ j : Fin 4096, Plan.dest (slotExpert sel) j.val ≠ r.val) :
    V12 m (outs m) c main_v83 (ix2 (⟨r.val + 2048, by omega⟩ : Fin 7040) n) = (0 : EReal) := by
  obtain ⟨e, he⟩ := expert_some (endsOf (slotSel m (outs m) c)) ⟨r.val / 128, by omega⟩
  refine (routed_row m c r n 0 (token_miss m c hsel r hr) e he).trans ?_
  rw [weight_miss m c hsel r hr, mul_zero]

include hwgt

theorem weight_hit (t : Fin 2048) (k : Fin 2) : V11 m (outs m) c main_v60 (ix1 (rowOf sel t k)) = wgt t k := by
  refine (congrFun (V11_v60 m (outs m) c) _).trans ?_
  refine (scatter_hit (slot_word m c hsel) (fun j _ => slotExpert_lt sel j) _ _ (slotOf t k)).trans ?_
  exact (cast21 (V2 m (outs m) c main_v10_1) shapeCasts_S2048x2_S4096 t k (slotOf t k) (by show 2 * t.val + k.val = t.val * 2 + k.val; omega)).trans (hwgt t k)

/-- The row of a token's choice. -/
theorem hit_row (t : Fin 2048) (k : Fin 2) (n : Fin 1024) :
    V12 m (outs m) c main_v83 (ix2 (⟨(rowOf sel t k).val + 2048, by omega⟩ : Fin 7040) n) = ffnAt m c t n (sel t k).castSucc * wgt t k := by
  refine (routed_row m c (rowOf sel t k) n t (token_hit m c hsel t k) (sel t k) ?_).trans ?_
  · refine (expert_at (slot_word m c hsel) (fun j _ => slotExpert_lt sel j) (slotOf t k) _ rfl).trans ?_
    rw [slotExpert_of]
  · rw [weight_hit m c hsel hwgt]

/-- An entry of the kernel's result. -/
theorem result_at (t : Fin 2048) (n : Fin 1024) :
    V13 m (outs m) c main_v95 (ix3 0 t n)
      = ffnAt m c t n 8 + (ffnAt m c t n (sel t 0).castSucc * wgt t 0 + ffnAt m c t n (sel t 1).castSucc * wgt t 1) := by
  have hq : V12 m (outs m) c main_v52 = V11 m (outs m) c main_v52 := V12_of m (outs m) c main_v52 (by decide)
  have hn : ∀ r, (V11 m (outs m) c main_v52 (ix1 r) : BitVec 32).toNat < 2 ^ 31 := fun r => by
    rcases row_cases m c hsel r with ⟨t', k', rfl⟩ | hr
    · rw [token_hit m c hsel, BitVec.toNat_ofNat]
      have := t'.isLt
      omega
    · rw [token_miss m c hsel r hr]
      decide
  have h := tail_at (V12 m (outs m) c main_v83) (V12 m (outs m) c main_v52) (fun r => (V11 m (outs m) c main_v52 (ix1 r) : BitVec 32).toNat) hn
    (fun r => (congrFun hq (ix1 r)).trans (BitVec.ofNat_toNat _ _ |>.trans (BitVec.setWidth_eq _)).symm) t n
  refine (congrFun (read_tail (V12 m (outs m) c)) (ix3 0 t n)).trans (h.trans ?_)
  refine congrArg₂ (· + ·) (shared_row m c t n) ?_
  have htok : ∀ t' k', (V11 m (outs m) c main_v52 (ix1 (rowOf sel t' k')) : BitVec 32).toNat = t'.val := fun t' k' => by
    rw [token_hit m c hsel, BitVec.toNat_ofNat]
    have := t'.isLt
    omega
  refine (sum_two_rows _ (rowOf sel t 0) (rowOf sel t 1) (fun h => absurd (rowOf_inj sel h).2 (by decide)) fun r h0 h1 => ?_).trans ?_
  · rcases row_cases m c hsel r with ⟨t', k', rfl⟩ | hr
    · refine if_neg fun hc => ?_
      rw [htok] at hc
      obtain rfl := Fin.ext hc
      rcases (show k' = 0 ∨ k' = 1 by omega) with rfl | rfl
      · exact h0 rfl
      · exact h1 rfl
    · rw [miss_row m c hsel r n hr, ite_self]
  · refine congrArg₂ (· + ·) ?_ ?_
    · exact (if_pos (htok t 0)).trans (hit_row m c hsel hwgt t 0 n)
    · exact (if_pos (htok t 1)).trans (hit_row m c hsel hwgt t 1 n)

end Choices

end Cert.Proof

end
-- ==== Proof.RouterValue.lean ====
/-
  What the router call leaves for a token: the two choices among its scores, and their weights.
-/
module

public import proofs.«01_k».proof.Proof.Math
public import proofs.«01_k».proof.Proof.Select
public import proofs.«01_k».proof.Proof.Router
public import Idealize.ShloMosaic.Lib.Pointwise
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe

variable (x : FVec Ideal S2048x1024 .f32) (w : FVec Ideal S8x1024 .f32) (t : Fin 2048)

/-- The token's eight scores. -/
def scores (e : Fin 8) : EReal := score (fun k => x (ix2 t k)) (fun e k => w (ix2 e k)) e

theorem scores_at (e : Fin 8) : k0_pay1 (F := Ideal) x w (ix2 t e) = scores x w t e := by
  pointwise [k0_pay1, scores, score]

variable {x w t} {a b : Fin 8}

/-- The greatest score. -/
theorem max1_at (ha : IsFirst (scores x w t) a) : k0_pay2 (F := Ideal) x w (ix2 t 0) = (scores x w t a : EReal) := by
  pointwise [k0_pay2]
  simp only [scores_at, ofBits_bot]
  exact fold_max_first _ a ha

/-- The first choice's index. -/
theorem arg1_at (ha : IsFirst (scores x w t) a) : k0_pay3 (F := Ideal) x w (ix2 t 0) = BitVec.ofNat 32 a.val := by
  pointwise [k0_pay3]
  simp only [scores_at, max1_at ha]
  exact fold_min_first _ a ha

/-- The scores with the first choice struck out. -/
theorem struck_at (ha : IsFirst (scores x w t) a) (e : Fin 8) :
    k0_pay4 (F := Ideal) x w (ix2 t e) = (struck (scores x w t) a e : EReal) := by
  pointwise [k0_pay4]
  rw [arg1_at ha, scores_at, ofBits_bot]
  unfold struck
  by_cases he : e = a
  · subst he
    rw [if_pos rfl]
    simp [Scalar.select, IntOp.cmpi]
  · rw [if_neg he]
    have hne : BitVec.ofNat 32 e.val ≠ BitVec.ofNat 32 a.val := by
      intro h
      have := congrArg BitVec.toNat h
      simp only [BitVec.toNat_ofNat] at this
      exact he (Fin.ext (by omega))
    have hc : IntOp.cmpi CmpIPredicate.eq (BitVec.ofNat 32 e.val) (BitVec.ofNat 32 a.val) = 0#1 := by
      simp only [IntOp.cmpi, beq_eq_false_iff_ne.mpr hne]
      rfl
    rw [hc]
    rfl

/-- The second greatest score. -/
theorem max2_at (hl : ∀ e, scores x w t e ≠ ⊥) (ha : IsFirst (scores x w t) a) (hb : IsSecond (scores x w t) a b) :
    k0_pay5 (F := Ideal) x w (ix2 t 0) = (scores x w t b : EReal) := by
  pointwise [k0_pay5]
  simp only [struck_at ha, ofBits_bot]
  exact (fold_max_first _ b (hb.struck hl)).trans (if_neg hb.1)

/-- The two choices. -/
theorem choice_at (hl : ∀ e, scores x w t e ≠ ⊥) (ha : IsFirst (scores x w t) a) (hb : IsSecond (scores x w t) a b) (k : Fin 2) :
    k0_pay6 (F := Ideal) x w (ix2 t k) = BitVec.ofNat 32 (if k = 0 then a else b).val := by
  pointwise [k0_pay6]
  rcases (show k = 0 ∨ k = 1 by omega) with rfl | rfl
  · rw [dif_pos (by decide), if_pos rfl]
    exact arg1_at ha
  · rw [dif_neg (by decide), if_neg (by decide)]
    simp only [struck_at ha, max2_at hl ha hb]
    have h2 : struck (scores x w t) a b = scores x w t b := if_neg hb.1
    rw [← h2]
    exact fold_min_first _ b (hb.struck hl)

/-- A quotient read at an index, from its two parts there. -/
theorem divf_at {p q : FVec Ideal S2048x1 .f32} {i : S2048x1.Idx} {u v : EReal} (hp : p i = u) (hq : q i = v) :
    divf p q i = Ideal.div u v := congrArg₂ Ideal.div hp hq

/-- The array of ones. -/
theorem one_at {i : S2048x1.Idx} : (broadcast S2048x1 (Scalar.ofBits .f32 0x3F800000#32) : FVec Ideal S2048x1 .f32) i = (1 : EReal) := by
  pointwise []

/-- The two weights. -/
theorem weight_at (hl : ∀ e, scores x w t e ≠ ⊥) (ha : IsFirst (scores x w t) a) (hb : IsSecond (scores x w t) a b) (k : Fin 2) :
    k0_pay7 (F := Ideal) x w (ix2 t k) = (weightOf (scores x w t a) (scores x w t b) k : EReal) := by
  have h1 : addf (broadcast S2048x1 (Scalar.ofBits .f32 0x3F800000#32)) (exp (subf (k0_pay5 (F := Ideal) x w) (k0_pay2 (F := Ideal) x w))) (ix2 t 0)
      = (1 + Ideal.exp (scores x w t b - scores x w t a) : EReal) := by
    pointwise []
    rw [max1_at ha, max2_at hl ha hb]
  have h2 : exp (subf (k0_pay5 (F := Ideal) x w) (k0_pay2 (F := Ideal) x w)) (ix2 t 0)
      = (Ideal.exp (scores x w t b - scores x w t a) : EReal) := by
    pointwise []
    rw [max1_at ha, max2_at hl ha hb]
  unfold weightOf k0_pay7
  rcases (show k = 0 ∨ k = 1 by omega) with rfl | rfl
  · rw [if_pos rfl]
    refine (concatenate_pair_apply_left (t := S2048x2) (s₁ := S2048x1) (s₂ := S2048x1) 1 _ _ _ (ix2 t 0) rfl (ix2 t 0)
      (by intro b; match b with | ⟨0, _⟩ => rfl | ⟨1, _⟩ => rfl)).trans ?_
    exact divf_at one_at h1
  · rw [if_neg (by decide)]
    refine (concatenate_pair_apply_right (t := S2048x2) (s₁ := S2048x1) (s₂ := S2048x1) 1 _ _ _ (ix2 t 1) rfl rfl (ix2 t 0)
      (by intro b hb; match b with | ⟨0, _⟩ => rfl | ⟨1, _⟩ => exact absurd rfl hb) rfl).trans ?_
    exact divf_at h2 h1

/-- The call's results are its two stored values. -/
theorem selOf_eq : selOf (F := Ideal) x w = k0_pay6 (F := Ideal) x w := by
  unfold selOf
  frame_out

theorem wgtOf_eq : wgtOf (F := Ideal) x w = k0_pay7 (F := Ideal) x w := by
  unfold wgtOf
  frame_out

end Cert.Proof

end
-- ==== Proof.RouterArr.lean ====
/-
  What the router call leaves in its two arrays, from the arrays it is given.
-/
module

public import proofs.«01_k».proof.Proof.RouterValue

@[expose] public section

set_option maxRecDepth 16384

noncomputable section

namespace Cert.Proof

open Cert.KernelIdeal Cert.KernelIdeal.Gen
open Idealize.ShloMosaic Idealize.ShloMosaic.TcCoe

variable (V : (c : Dev nD) → Valuation τ sig (Elt Ideal)) (c : Dev nD)

/-- The tokens' block is their whole array. -/
theorem blk0_0 (t : Fin cfg0.N) : blk0 V c 0 t = V c main_v0 := by
  funext j
  unfold blk0
  refine congrArg (V c main_v0) (funext fun b => Fin.ext ?_)
  match b with
  | ⟨0, _⟩ =>
    blk_simp
    exact (by show 0 * 2048 + (j ⟨0, Nat.two_pos⟩).val = _; omega)
  | ⟨1, _⟩ =>
    blk_simp
    exact (by show 0 * 1024 + (j ⟨1, Nat.one_lt_two⟩).val = _; omega)

/-- The router matrix's block is its whole array. -/
theorem blk0_1 (t : Fin cfg0.N) : blk0 V c 1 t = V c main_arg1 := by
  funext j
  unfold blk0
  refine congrArg (V c main_arg1) (funext fun b => Fin.ext ?_)
  match b with
  | ⟨0, _⟩ =>
    blk_simp
    exact (by show 0 * 8 + (j ⟨0, Nat.two_pos⟩).val = _; omega)
  | ⟨1, _⟩ =>
    blk_simp
    exact (by show 0 * 1024 + (j ⟨1, Nat.one_lt_two⟩).val = _; omega)

theorem sel_left (t : Fin cfg0.N) : (dat0 V c).after 2 t = k0_pay6 (F := Ideal) (V c main_v0) (V c main_arg1) := by
  rw [after0_2, blk0_0, blk0_1]
  exact selOf_eq

theorem wgt_left (t : Fin cfg0.N) : (dat0 V c).after 3 t = k0_pay7 (F := Ideal) (V c main_v0) (V c main_arg1) := by
  rw [after0_3, blk0_0, blk0_1]
  exact wgtOf_eq

/-- The chosen experts' array. -/
theorem sel_arr : (dat0 V c).arrAt 2 cfg0.N = k0_pay6 (F := Ideal) (V c main_v0) (V c main_arg1) :=
  (dat0 V c).arrAt_eq_of_after_last 2 t0_0 (by decide +kernel) _ fun j => by
    refine (congrFun (sel_left V c t0_0) j).trans ?_
    refine congrArg (k0_pay6 (F := Ideal) (V c main_v0) (V c main_arg1)) (funext fun b => Fin.ext ?_)
    match b with
    | ⟨0, _⟩ => rfl
    | ⟨1, _⟩ => rfl

/-- The weights' array. -/
theorem wgt_arr : (dat0 V c).arrAt 3 cfg0.N = k0_pay7 (F := Ideal) (V c main_v0) (V c main_arg1) :=
  (dat0 V c).arrAt_eq_of_after_last 3 t0_0 (by decide +kernel) _ fun j => by
    refine (congrFun (wgt_left V c t0_0) j).trans ?_
    refine congrArg (k0_pay7 (F := Ideal) (V c main_v0) (V c main_arg1)) (funext fun b => Fin.ext ?_)
    match b with
    | ⟨0, _⟩ => rfl
    | ⟨1, _⟩ => rfl

end Cert.Proof

end
-- ==== Proof.KernelAnswer.lean ====
/-
  The kernel computes the layer's result.
-/
module

public import proofs.«01_k».proof.Proof.Answer
public import proofs.«01_k».proof.Proof.Rows
public import proofs.«01_k».proof.Proof.RouterArr

@[expose] public section

set_option maxRecDepth 16384

noncomputable section

namespace Cert.Proof

open Cert.KernelIdeal Cert.KernelIdeal.Gen
open Idealize.ShloMosaic Idealize.ShloMosaic.TcCoe

theorem gateOf_routed (G : FVec Ideal S8x2048x1024 .f32) (S : FVec Ideal S2048x1024 .f32) (e : Fin 8) (j : Fin 2048) (k : Fin 1024) :
    gateOf G S e.castSucc j k = G (ix3 e j k) := dif_pos (show e.castSucc.val < 8 from e.isLt)

theorem gateOf_shared (G : FVec Ideal S8x2048x1024 .f32) (S : FVec Ideal S2048x1024 .f32) (j : Fin 2048) (k : Fin 1024) :
    gateOf G S 8 j k = S (ix2 j k) := dif_neg (by decide)

theorem downOf_routed (D : FVec Ideal S8x1024x2048 .f32) (S : FVec Ideal S1024x2048 .f32) (e : Fin 8) (n : Fin 1024) (j : Fin 2048) :
    downOf D S e.castSucc n j = D (ix3 e n j) := dif_pos (show e.castSucc.val < 8 from e.isLt)

theorem downOf_shared (D : FVec Ideal S8x1024x2048 .f32) (S : FVec Ideal S1024x2048 .f32) (n : Fin 1024) (j : Fin 2048) :
    downOf D S 8 n j = S (ix2 n j) := dif_neg (by decide)

variable (m : (ℓ : Loc nD τ sig) → Buf (Elt Ideal) ℓ) (c : Dev nD)

theorem ffn_expert (t : Fin 2048) (n : Fin 1024) (e : Fin 8) :
    ffnAt m c t n e.castSucc = expertAt (V0 m c main_arg0) (V0 m c main_arg2) (V0 m c main_arg3) (V0 m c main_arg4) t n e :=
  swiglu_congr (fun _ => rfl) (gateOf_routed _ _ e) (gateOf_routed _ _ e) (downOf_routed _ _ e n)

theorem ffn_shared_at (t : Fin 2048) (n : Fin 1024) :
    ffnAt m c t n 8 = sharedAt (V0 m c main_arg0) (V0 m c main_arg5) (V0 m c main_arg6) (V0 m c main_arg7) t n :=
  swiglu_congr (fun _ => rfl) (gateOf_shared _ _) (gateOf_shared _ _) (downOf_shared _ _ n)

/-- The scores of the tokens as rows. -/
theorem scores_of_rows {y : FVec Ideal S2048x1024 .f32} {x : FVec Ideal S1x2048x1024 .f32} (w : FVec Ideal S8x1024 .f32) {t : Fin 2048}
    (h : ∀ k, y (ix2 t k) = x (ix3 0 t k)) (e : Fin 8) : scores y w t e = scoreAt x w t e := by
  unfold scores scoreAt
  exact congrArg (fun r => score r (fun e k => w (ix2 e k)) e) (funext h)

/-- The kernel's scores. -/
theorem kernel_scores (t : Fin 2048) (e : Fin 8) : scores (V1 m c main_v0) (V1 m c main_arg1) t e = scoreAt (V0 m c main_arg0) (V0 m c main_arg1) t e := by
  have hw : V1 m c main_arg1 = V0 m c main_arg1 := V1_of m c main_arg1 (by decide)
  rw [hw]
  exact scores_of_rows _ (V1_tok m c t) e

/-- An entry of the kernel's result. -/
theorem kernel_at (hr : ∀ t e, ∃ r : ℝ, scoreAt (V0 m c main_arg0) (V0 m c main_arg1) t e = (r : EReal)) (a b : Fin 2048 → Fin 8)
    (ha : ∀ t, IsFirst (scoreAt (V0 m c main_arg0) (V0 m c main_arg1) t) (a t)) (hb : ∀ t, IsSecond (scoreAt (V0 m c main_arg0) (V0 m c main_arg1) t) (a t) (b t))
    (t : Fin 2048) (n : Fin 1024) :
    V13 m (outs m) c main_v95 (ix3 0 t n)
      = answerAt (V0 m c main_arg0) (V0 m c main_arg1) (V0 m c main_arg2) (V0 m c main_arg3) (V0 m c main_arg4) (V0 m c main_arg5) (V0 m c main_arg6)
        (V0 m c main_arg7) (a t) (b t) t n := by
  have he : ∀ t, scores (V1 m c main_v0) (V1 m c main_arg1) t = scoreAt (V0 m c main_arg0) (V0 m c main_arg1) t := fun t => funext (kernel_scores m c t)
  have hl : ∀ t e, scores (V1 m c main_v0) (V1 m c main_arg1) t e ≠ ⊥ := fun t e => by
    obtain ⟨r, h⟩ := hr t e
    rw [he, h]
    exact EReal.coe_ne_bot r
  have ha' : ∀ t, IsFirst (scores (V1 m c main_v0) (V1 m c main_arg1) t) (a t) := fun t => (he t).symm ▸ ha t
  have hb' : ∀ t, IsSecond (scores (V1 m c main_v0) (V1 m c main_arg1) t) (a t) (b t) := fun t => (he t).symm ▸ hb t
  have h := result_at m c (sel := fun t k => if k = 0 then a t else b t)
    (wgt := fun t k => weightOf (scoreAt (V0 m c main_arg0) (V0 m c main_arg1) t (a t)) (scoreAt (V0 m c main_arg0) (V0 m c main_arg1) t (b t)) k)
    (fun t k => (congrFun ((V2_sel m c).trans (sel_arr (V1 m) c)) (ix2 t k)).trans (choice_at (hl t) (ha' t) (hb' t) k))
    (fun t k => (congrFun ((V2_wgt m c).trans (wgt_arr (V1 m) c)) (ix2 t k)).trans ((weight_at (hl t) (ha' t) (hb' t) k).trans
      (congrArg₂ (fun p q => weightOf p q k) (congrFun (he t) (a t)) (congrFun (he t) (b t))))) t n
  refine h.trans ?_
  unfold answerAt
  exact Ideal.add_congr (ffn_shared_at m c t n) (Ideal.add_congr (congrArg (· * _) (ffn_expert m c t n (a t))) (congrArg (· * _) (ffn_expert m c t n (b t))))

theorem kernel_cst : V13 m (outs m) c main_cst_23 = constant (F := Ideal) S_ .f32 0x00000000#32 := read_cst (V12 m (outs m) c)

end Cert.Proof

end
-- ==== Proof.Value.lean ====
/-
  The kernel and the reference end with the same results.
-/
module

public import proofs.«01_k».proof.Defs
public import proofs.«01_k».proof.Proof.Pre
public import proofs.«01_k».proof.Proof.RefAnswer
public import proofs.«01_k».proof.Proof.KernelAnswer

@[expose] public section

set_option maxRecDepth 16384

noncomputable section

namespace Cert.Proof

open Idealize.ShloMosaic Idealize.ShloMosaic.TcCoe Idealize.SL.Sem

section Kernel

open Cert.KernelIdeal Cert.KernelIdeal.Gen

variable (m : (ℓ : Loc nD τ sig) → Buf (Elt Ideal) ℓ)

/-- Under the precondition every score is a real number. -/
theorem scores_real (hpre : Cert.Pre_KernelIdeal_router_finite m) (c : Dev nD) (t : Fin 2048) (e : Fin 8) :
    ∃ r : ℝ, scoreAt (V0 m c main_arg0) (V0 m c main_arg1) t e = (r : EReal) := by
  have h := pre_parts _ _ _ _ _ _ _ _ (fun i => congrFun (hpre c) i)
  exact scoreAt_real _ _ h.1 h.2 t e

end Kernel

/-- The two results are one array. -/
theorem results_eq (m : (ℓ : Loc Cert.KernelIdeal.nD Cert.KernelIdeal.τ Cert.KernelIdeal.sig) → Buf (Elt Ideal) ℓ) (hpre : Cert.Pre_KernelIdeal_router_finite m)
    (c : Dev Cert.KernelIdeal.nD) (V : Valuation Cert.ReferenceIdeal.τ Cert.ReferenceIdeal.sig (Elt Ideal))
    (h0 : V (Proc.devRef .tc Cert.ReferenceIdeal.main_arg0) = Cert.KernelIdeal.Gen.V0 m c Cert.KernelIdeal.main_arg0)
    (h1 : V (Proc.devRef .tc Cert.ReferenceIdeal.main_arg1) = Cert.KernelIdeal.Gen.V0 m c Cert.KernelIdeal.main_arg1)
    (h2 : V (Proc.devRef .tc Cert.ReferenceIdeal.main_arg2) = Cert.KernelIdeal.Gen.V0 m c Cert.KernelIdeal.main_arg2)
    (h3 : V (Proc.devRef .tc Cert.ReferenceIdeal.main_arg3) = Cert.KernelIdeal.Gen.V0 m c Cert.KernelIdeal.main_arg3)
    (h4 : V (Proc.devRef .tc Cert.ReferenceIdeal.main_arg4) = Cert.KernelIdeal.Gen.V0 m c Cert.KernelIdeal.main_arg4)
    (h5 : V (Proc.devRef .tc Cert.ReferenceIdeal.main_arg5) = Cert.KernelIdeal.Gen.V0 m c Cert.KernelIdeal.main_arg5)
    (h6 : V (Proc.devRef .tc Cert.ReferenceIdeal.main_arg6) = Cert.KernelIdeal.Gen.V0 m c Cert.KernelIdeal.main_arg6)
    (h7 : V (Proc.devRef .tc Cert.ReferenceIdeal.main_arg7) = Cert.KernelIdeal.Gen.V0 m c Cert.KernelIdeal.main_arg7) :
    (refTerm (V (Proc.devRef .tc Cert.ReferenceIdeal.main_arg0)) (experts (Cert.ReferenceIdeal.Value.res_main_v13 V)
        (V (Proc.devRef .tc Cert.ReferenceIdeal.main_arg2)) (V (Proc.devRef .tc Cert.ReferenceIdeal.main_arg3))
        (V (Proc.devRef .tc Cert.ReferenceIdeal.main_arg4)) (Cert.ReferenceIdeal.Value.res_main_v14 V) (Cert.ReferenceIdeal.Value.res_main_v15 V))
        (V (Proc.devRef .tc Cert.ReferenceIdeal.main_arg5)) (V (Proc.devRef .tc Cert.ReferenceIdeal.main_arg6)) (V (Proc.devRef .tc Cert.ReferenceIdeal.main_arg7))
      : FVec Ideal Cert.ReferenceIdeal.S1x2048x1024 .f32) = Cert.KernelIdeal.Gen.V13 m (outs m) c Cert.KernelIdeal.main_v95 := by
  have hr := scores_real m hpre c
  choose a b hab using fun t => exists_choices (scoreAt (Cert.KernelIdeal.Gen.V0 m c Cert.KernelIdeal.main_arg0) (Cert.KernelIdeal.Gen.V0 m c Cert.KernelIdeal.main_arg1) t)
  funext i
  obtain ⟨t, n, rfl⟩ : ∃ (t : Fin 2048) (n : Fin 1024), i = (ix3 0 t n : Cert.ReferenceIdeal.S1x2048x1024.Idx) := by
    refine ⟨i 1, i 2, funext fun d => Fin.ext ?_⟩
    match d with
    | ⟨0, _⟩ => have := (i 0).isLt; show (i 0).val = 0; have h : (i 0).val < 1 := this; omega
    | ⟨1, _⟩ => rfl
    | ⟨2, _⟩ => rfl
  have hk := kernel_at m c hr a b (fun t => (hab t).1) (fun t => (hab t).2) t n
  have hR := ref_at V (t := t) (a := a t) (b := b t) (by rw [h0, h1]; exact hr t) (by rw [h0, h1]; exact (hab t).1) (by rw [h0, h1]; exact (hab t).2) n
  refine hR.trans (Eq.trans ?_ hk.symm)
  rw [h0, h1, h2, h3, h4, h5, h6, h7]

/-- The value claim. -/
theorem value : Cert.algebraic_KernelIdeal_ReferenceIdeal_pre_router_finite := by
  intro m g m' g' hpre hagree
  refine ⟨fun c => Cert.KernelIdeal.Gen.V13 m (outs m) c Cert.KernelIdeal.main_v95, fun c => Cert.KernelIdeal.Gen.V13 m (outs m) c Cert.KernelIdeal.main_cst_23, ?_, ?_⟩
  · exact (θ_run _ _ _).mono (fun _ h c => h.1 c) (run_main m g)
  · refine (θ_run _ _ _).mono (fun _ h c => ?_) (ref_run m' g')
    obtain ⟨hv, hc, hargs⟩ := h c
    obtain ⟨h0, h1, h2, h3, h4, h5, h6, h7⟩ := hagree c
    refine ⟨hv.trans ?_, hc.trans (kernel_cst m c).symm, hargs⟩
    exact results_eq m hpre c (StableHlo.launchContents m' c) h0 h1 h2 h3 h4 h5 h6 h7

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Pre
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_router_finite.Gen.facts,
  frame_kernel, frame_kernelIdeal, fun m g _ => frame_kernelIdeal m g trivial, frame_referenceIdeal, fun m g _ => frame_referenceIdeal m g trivial, trivial, value⟩

end Cert.Proof

end
